-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "sc" .f32 0x4187E439#32 ((Real.sqrt (200 * (Real.log 2)⁻¹) : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "la2" .f32 0xC0B49A78#32 (((Real.log (1 / 50)) * (Real.log 2)⁻¹ : ℝ) : EReal)
  ∧ IdealRules.named_const.Statement Cert.KernelIdeal.κ "w" .f32 0x38115D0E#32 (((1 / 20000) * (Real.log 2) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x50 : Shape := ⟨2, ![4096, 50]⟩
abbrev S4096 : Shape := ⟨1, ![4096]⟩
abbrev S50x4096 : Shape := ⟨2, ![50, 4096]⟩
abbrev S1x4096 : Shape := ⟨2, ![1, 4096]⟩
abbrev S32x3x128 : Shape := ⟨3, ![32, 3, 128]⟩
abbrev S50x128 : Shape := ⟨2, ![50, 128]⟩
abbrev S1x128 : Shape := ⟨2, ![1, 128]⟩
abbrev S1x3x128 : Shape := ⟨3, ![1, 3, 128]⟩
abbrev S48x128 : Shape := ⟨2, ![48, 128]⟩
abbrev S48x1x128 : Shape := ⟨3, ![48, 1, 128]⟩
abbrev S1x48x128 : Shape := ⟨3, ![1, 48, 128]⟩
abbrev S48x48x128 : Shape := ⟨3, ![48, 48, 128]⟩
abbrev S128 : Shape := ⟨1, ![128]⟩
abbrev S3x128 : Shape := ⟨2, ![3, 128]⟩
abbrev S_ : Shape := ⟨0, ![]⟩
abbrev S3 : Shape := ⟨1, ![3]⟩
abbrev S1 : Shape := ⟨1, ![1]⟩

abbrev nBuf : Space → Nat
  | .hbm => 25
  | .vmem => 10
  | .smem => 0
  | _ => 0

abbrev bufTy : (tb : Table) → Fin (tcTables nBuf tb) → BufTy
  | .hbm, ⟨0, _⟩ => ⟨S4096x50, .f32⟩
  | .hbm, ⟨1, _⟩ => ⟨S4096x50, .f32⟩
  | .hbm, ⟨2, _⟩ => ⟨S4096, .f32⟩
  | .hbm, ⟨3, _⟩ => ⟨S4096, .f32⟩
  | .hbm, ⟨4, _⟩ => ⟨S50x4096, .f32⟩
  | .hbm, ⟨5, _⟩ => ⟨S50x4096, .f32⟩
  | .hbm, ⟨6, _⟩ => ⟨S1x4096, .f32⟩
  | .hbm, ⟨7, _⟩ => ⟨S1x4096, .f32⟩
  | .hbm, ⟨8, _⟩ => ⟨S32x3x128, .f32⟩
  | .hbm, ⟨9, _⟩ => ⟨S_, .f32⟩
  | .hbm, ⟨10, _⟩ => ⟨S3, .f32⟩
  | .hbm, ⟨11, _⟩ => ⟨S1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S50x128, .f32⟩
  | .local _ .vmem, ⟨1, _⟩ => ⟨S50x128, .f32⟩
  | .local _ .vmem, ⟨2, _⟩ => ⟨S50x128, .f32⟩
  | .local _ .vmem, ⟨3, _⟩ => ⟨S50x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x3x128, .f32⟩
  | .local _ .vmem, ⟨9, _⟩ => ⟨S1x3x128, .f32⟩
  | _, _ => ⟨S4096x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c10_i32 : BitVec 32 := 10#32
  let v33 : BitVec 32 := Scalar.addi c0_i32 c10_i32
  let c1_i32 : BitVec 32 := 1#32
  ⟨c0_i32, v33, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S50x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S50x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "la2" => some (((Real.log (1 / 50)) * (Real.log 2)⁻¹ : ℝ) : EReal)
  | "log2e" => some (((Real.log 2)⁻¹ : ℝ) : EReal)
  | "sc" => some ((Real.sqrt (200 * (Real.log 2)⁻¹) : ℝ) : EReal)
  | "w" => some (((1 / 20000) * (Real.log 2) : ℝ) : EReal)
  | _ => none
-- ==== ReferenceIdeal.lean ====
abbrev S4096x50 : Shape := ⟨2, ![4096, 50]⟩
abbrev S4096 : Shape := ⟨1, ![4096]⟩
abbrev S4096x48 : Shape := ⟨2, ![4096, 48]⟩
abbrev S_ : Shape := ⟨0, ![]⟩
abbrev S4096x48x1 : Shape := ⟨3, ![4096, 48, 1]⟩
abbrev S4096x1x48 : Shape := ⟨3, ![4096, 1, 48]⟩
abbrev S4096x48x48 : Shape := ⟨3, ![4096, 48, 48]⟩

abbrev nBuf : Space → Nat
  | .hbm => 216
  | .vmem => 0
  | .smem => 0
  | _ => 0

abbrev hbmTy0_0 (i : Nat) : BufTy := match i % 128 with
  | 0 => ⟨S4096x50, .f32⟩
  | 1 => ⟨S4096x50, .f32⟩
  | 2 => ⟨S4096, .f32⟩
  | 3 => ⟨S4096, .f32⟩
  | 4 => ⟨S4096x48, .f32⟩
  | 5 => ⟨S4096x48, .f32⟩
  | 6 => ⟨S_, .f32⟩
  | 7 => ⟨S4096x48, .f32⟩
  | 8 => ⟨S_, .f32⟩
  | 9 => ⟨S4096x48, .f32⟩
  | 10 => ⟨S4096x48, .f32⟩
  | 11 => ⟨S4096x48, .f32⟩
  | 12 => ⟨S4096x48x1, .f32⟩
  | 13 => ⟨S4096x1x48, .f32⟩
  | 14 => ⟨S4096x48x48, .f32⟩
  | 15 => ⟨S4096x48x48, .f32⟩
  | 16 => ⟨S4096x48x48, .f32⟩
  | 17 => ⟨S4096x48x48, .f32⟩
  | 18 => ⟨S_, .f32⟩
  | 19 => ⟨S4096x48x48, .f32⟩
  | 20 => ⟨S4096x48x48, .f32⟩
  | 21 => ⟨S4096x48x1, .f32⟩
  | 22 => ⟨S4096x1x48, .f32⟩
  | 23 => ⟨S4096x48x48, .f32⟩
  | 24 => ⟨S4096x48x48, .f32⟩
  | 25 => ⟨S4096x48x48, .f32⟩
  | 26 => ⟨S4096x48x48, .f32⟩
  | 27 => ⟨S_, .f32⟩
  | 28 => ⟨S4096x48x48, .f32⟩
  | 29 => ⟨S4096x48x48, .f32⟩
  | 30 => ⟨S4096x48x1, .f32⟩
  | 31 => ⟨S4096x1x48, .f32⟩
  | 32 => ⟨S4096x48x48, .f32⟩
  | 33 => ⟨S4096x48x48, .f32⟩
  | 34 => ⟨S4096x48x48, .f32⟩
  | 35 => ⟨S4096x48x48, .f32⟩
  | 36 => ⟨S_, .f32⟩
  | 37 => ⟨S4096x48x48, .f32⟩
  | 38 => ⟨S4096x48x48, .f32⟩
  | 39 => ⟨S_, .f32⟩
  | 40 => ⟨S4096x48, .f32⟩
  | 41 => ⟨S_, .i32⟩
  | 42 => ⟨S_, .i32⟩
  | 43 => ⟨S4096x48x48, .f32⟩
  | 44 => ⟨S4096x48, .f32⟩
  | 45 => ⟨S4096x48x48, .f32⟩
  | 46 => ⟨S4096x48x48, .f32⟩
  | 47 => ⟨S_, .i32⟩
  | 48 => ⟨S_, .i32⟩
  | 49 => ⟨S4096x48, .f32⟩
  | 50 => ⟨S4096x48, .f32⟩
  | 51 => ⟨S4096x48, .f32⟩
  | 52 => ⟨S4096x48, .f32⟩
  | 53 => ⟨S4096x48, .f32⟩
  | 54 => ⟨S4096x48, .f32⟩
  | 55 => ⟨S_, .i32⟩
  | 56 => ⟨S_, .i1⟩
  | 57 => ⟨S_, .i32⟩
  | 58 => ⟨S_, .i32⟩
  | 59 => ⟨S4096x48x1, .f32⟩
  | 60 => ⟨S4096x48x48, .f32⟩
  | 61 => ⟨S4096x48x48, .f32⟩
  | 62 => ⟨S_, .f32⟩
  | 63 => ⟨S4096x48x48, .f32⟩
  | 64 => ⟨S4096x48x48, .f32⟩
  | 65 => ⟨S4096x48x1, .f32⟩
  | 66 => ⟨S4096x48x48, .f32⟩
  | 67 => ⟨S4096x48x48, .f32⟩
  | 68 => ⟨S4096x48x48, .f32⟩
  | 69 => ⟨S_, .f32⟩
  | 70 => ⟨S4096x48, .f32⟩
  | 71 => ⟨S4096x48, .f32⟩
  | 72 => ⟨S4096x48, .f32⟩
  | 73 => ⟨S_, .f32⟩
  | 74 => ⟨S4096x48, .f32⟩
  | 75 => ⟨S4096x48, .f32⟩
  | 76 => ⟨S4096x1x48, .f32⟩
  | 77 => ⟨S4096x48x48, .f32⟩
  | 78 => ⟨S4096x48x48, .f32⟩
  | 79 => ⟨S_, .f32⟩
  | 80 => ⟨S4096x48x48, .f32⟩
  | 81 => ⟨S4096x48x48, .f32⟩
  | 82 => ⟨S4096x1x48, .f32⟩
  | 83 => ⟨S4096x48x48, .f32⟩
  | 84 => ⟨S4096x48x48, .f32⟩
  | 85 => ⟨S4096x48x48, .f32⟩
  | 86 => ⟨S_, .f32⟩
  | 87 => ⟨S4096x48, .f32⟩
  | 88 => ⟨S4096x48, .f32⟩
  | 89 => ⟨S4096x48, .f32⟩
  | 90 => ⟨S_, .f32⟩
  | 91 => ⟨S4096x48, .f32⟩
  | 92 => ⟨S4096x48, .f32⟩
  | 93 => ⟨S4096x48x1, .f32⟩
  | 94 => ⟨S4096x48x48, .f32⟩
  | 95 => ⟨S4096x48x48, .f32⟩
  | 96 => ⟨S_, .f32⟩
  | 97 => ⟨S4096x48x48, .f32⟩
  | 98 => ⟨S4096x48x48, .f32⟩
  | 99 => ⟨S4096x48x1, .f32⟩
  | 100 => ⟨S4096x48x48, .f32⟩
  | 101 => ⟨S4096x48x48, .f32⟩
  | 102 => ⟨S4096x48x48, .f32⟩
  | 103 => ⟨S_, .f32⟩
  | 104 => ⟨S4096x48, .f32⟩
  | 105 => ⟨S4096x48, .f32⟩
  | 106 => ⟨S4096x48, .f32⟩
  | 107 => ⟨S_, .f32⟩
  | 108 => ⟨S4096x48, .f32⟩
  | 109 => ⟨S4096x48, .f32⟩
  | 110 => ⟨S4096x1x48, .f32⟩
  | 111 => ⟨S4096x48x48, .f32⟩
  | 112 => ⟨S4096x48x48, .f32⟩
  | 113 => ⟨S_, .f32⟩
  | 114 => ⟨S4096x48x48, .f32⟩
  | 115 => ⟨S4096x48x48, .f32⟩
  | 116 => ⟨S4096x1x48, .f32⟩
  | 117 => ⟨S4096x48x48, .f32⟩
  | 118 => ⟨S4096x48x48, .f32⟩
  | 119 => ⟨S4096x48x48, .f32⟩
  | 120 => ⟨S_, .f32⟩
  | 121 => ⟨S4096x48, .f32⟩
  | 122 => ⟨S4096x48, .f32⟩
  | 123 => ⟨S4096x48, .f32⟩
  | 124 => ⟨S_, .f32⟩
  | 125 => ⟨S4096x48, .f32⟩
  | 126 => ⟨S4096x48, .f32⟩
  | 127 => ⟨S4096x48x1, .f32⟩
  | _ => ⟨S4096x50, .f32⟩

abbrev hbmTy0_1 (i : Nat) : BufTy := match i % 128 with
  | 0 => ⟨S4096x48x48, .f32⟩
  | 1 => ⟨S4096x48x48, .f32⟩
  | 2 => ⟨S_, .f32⟩
  | 3 => ⟨S4096x48x48, .f32⟩
  | 4 => ⟨S4096x48x48, .f32⟩
  | 5 => ⟨S4096x48x1, .f32⟩
  | 6 => ⟨S4096x48x48, .f32⟩
  | 7 => ⟨S4096x48x48, .f32⟩
  | 8 => ⟨S4096x48x48, .f32⟩
  | 9 => ⟨S_, .f32⟩
  | 10 => ⟨S4096x48, .f32⟩
  | 11 => ⟨S4096x48, .f32⟩
  | 12 => ⟨S4096x48, .f32⟩
  | 13 => ⟨S_, .f32⟩
  | 14 => ⟨S4096x48, .f32⟩
  | 15 => ⟨S4096x48, .f32⟩
  | 16 => ⟨S4096x1x48, .f32⟩
  | 17 => ⟨S4096x48x48, .f32⟩
  | 18 => ⟨S4096x48x48, .f32⟩
  | 19 => ⟨S_, .f32⟩
  | 20 => ⟨S4096x48x48, .f32⟩
  | 21 => ⟨S4096x48x48, .f32⟩
  | 22 => ⟨S4096x1x48, .f32⟩
  | 23 => ⟨S4096x48x48, .f32⟩
  | 24 => ⟨S4096x48x48, .f32⟩
  | 25 => ⟨S4096x48x48, .f32⟩
  | 26 => ⟨S_, .f32⟩
  | 27 => ⟨S4096x48, .f32⟩
  | 28 => ⟨S4096x48, .f32⟩
  | 29 => ⟨S4096x48, .f32⟩
  | 30 => ⟨S_, .f32⟩
  | 31 => ⟨S4096x48, .f32⟩
  | 32 => ⟨S4096x48, .f32⟩
  | 33 => ⟨S_, .i32⟩
  | 34 => ⟨S_, .i32⟩
  | 35 => ⟨S_, .f32⟩
  | 36 => ⟨S4096x48, .f32⟩
  | 37 => ⟨S_, .f32⟩
  | 38 => ⟨S4096x48, .f32⟩
  | 39 => ⟨S4096x48, .f32⟩
  | 40 => ⟨S4096x48, .f32⟩
  | 41 => ⟨S_, .f32⟩
  | 42 => ⟨S4096, .f32⟩
  | 43 => ⟨S4096x48, .f32⟩
  | 44 => ⟨S_, .f32⟩
  | 45 => ⟨S4096, .f32⟩
  | 46 => ⟨S4096, .f32⟩
  | 47 => ⟨S4096x48, .f32⟩
  | 48 => ⟨S_, .f32⟩
  | 49 => ⟨S4096, .f32⟩
  | 50 => ⟨S4096x48, .f32⟩
  | 51 => ⟨S_, .f32⟩
  | 52 => ⟨S4096, .f32⟩
  | 53 => ⟨S4096, .f32⟩
  | 54 => ⟨S_, .f32⟩
  | 55 => ⟨S4096, .f32⟩
  | 56 => ⟨S4096, .f32⟩
  | 57 => ⟨S4096, .f32⟩
  | 58 => ⟨S4096x48, .f32⟩
  | 59 => ⟨S_, .f32⟩
  | 60 => ⟨S4096, .f32⟩
  | 61 => ⟨S4096x48, .f32⟩
  | 62 => ⟨S_, .f32⟩
  | 63 => ⟨S4096, .f32⟩
  | 64 => ⟨S4096, .f32⟩
  | 65 => ⟨S_, .f32⟩
  | 66 => ⟨S4096, .f32⟩
  | 67 => ⟨S4096, .f32⟩
  | 68 => ⟨S4096, .f32⟩
  | 69 => ⟨S_, .f32⟩
  | 70 => ⟨S_, .f32⟩
  | 71 => ⟨S_, .f32⟩
  | 72 => ⟨S_, .f32⟩
  | 73 => ⟨S4096, .f32⟩
  | 74 => ⟨S4096, .f32⟩
  | 75 => ⟨S_, .f32⟩
  | 76 => ⟨S_, .f32⟩
  | 77 => ⟨S_, .f32⟩
  | 78 => ⟨S_, .f32⟩
  | 79 => ⟨S4096x50, .f32⟩
  | 80 => ⟨S4096x48, .f32⟩
  | 81 => ⟨S4096x48, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | _ => ⟨S4096x50, .f32⟩

abbrev hbmTy (i : Nat) : BufTy := match i / 128 with
  | 0 => hbmTy0_0 i
  | 1 => hbmTy0_1 i
  | _ => ⟨S4096x50, .f32⟩

abbrev bufTy : (tb : Table) → Fin (tcTables nBuf tb) → BufTy
  | .hbm, ⟨i, _⟩ => hbmTy i
  | _, _ => ⟨S4096x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_c : Ref sig .tc := ⟨.hbm, 41, rfl⟩
abbrev main_c_5 : Ref sig .tc := ⟨.hbm, 42, rfl⟩
abbrev main_v31_0 : Ref sig .tc := ⟨.hbm, 43, rfl⟩
abbrev main_v31_1 : Ref sig .tc := ⟨.hbm, 44, rfl⟩
abbrev main_v31_2 : Ref sig .tc := ⟨.hbm, 45, rfl⟩
abbrev main_v31_3 : Ref sig .tc := ⟨.hbm, 46, rfl⟩
abbrev main_v31_4 : Ref sig .tc := ⟨.hbm, 47, rfl⟩
abbrev main_v31_5 : Ref sig .tc := ⟨.hbm, 48, rfl⟩
abbrev main_v31_6 : Ref sig .tc := ⟨.hbm, 49, rfl⟩
abbrev main_v31_7 : Ref sig .tc := ⟨.hbm, 50, rfl⟩
abbrev main_v31_8 : Ref sig .tc := ⟨.hbm, 51, rfl⟩
abbrev main_v31_9 : Ref sig .tc := ⟨.hbm, 52, rfl⟩
abbrev main_v31_10 : Ref sig .tc := ⟨.hbm, 53, rfl⟩
abbrev main_v31_11 : Ref sig .tc := ⟨.hbm, 54, rfl⟩
abbrev main_while0c_c_33 : Ref sig .tc := ⟨.hbm, 55, rfl⟩
abbrev main_while0c_v69 : Ref sig .tc := ⟨.hbm, 56, rfl⟩
abbrev main_while0b_c_33 : Ref sig .tc := ⟨.hbm, 57, rfl⟩
abbrev main_while0b_v69 : Ref sig .tc := ⟨.hbm, 58, rfl⟩
abbrev main_while0b_v70 : Ref sig .tc := ⟨.hbm, 59, rfl⟩
abbrev main_while0b_v71 : Ref sig .tc := ⟨.hbm, 60, rfl⟩
abbrev main_while0b_v72 : Ref sig .tc := ⟨.hbm, 61, rfl⟩
abbrev main_while0b_cst_34 : Ref sig .tc := ⟨.hbm, 62, rfl⟩
abbrev main_while0b_v73 : Ref sig .tc := ⟨.hbm, 63, rfl⟩
abbrev main_while0b_v74 : Ref sig .tc := ⟨.hbm, 64, rfl⟩
abbrev main_while0b_v75 : Ref sig .tc := ⟨.hbm, 65, rfl⟩
abbrev main_while0b_v76 : Ref sig .tc := ⟨.hbm, 66, rfl⟩
abbrev main_while0b_v77 : Ref sig .tc := ⟨.hbm, 67, rfl⟩
abbrev main_while0b_v78 : Ref sig .tc := ⟨.hbm, 68, rfl⟩
abbrev main_while0b_cst_35 : Ref sig .tc := ⟨.hbm, 69, rfl⟩
abbrev main_while0b_v79 : Ref sig .tc := ⟨.hbm, 70, rfl⟩
abbrev main_while0b_v80 : Ref sig .tc := ⟨.hbm, 71, rfl⟩
abbrev main_while0b_v81 : Ref sig .tc := ⟨.hbm, 72, rfl⟩
abbrev main_while0b_cst_36 : Ref sig .tc := ⟨.hbm, 73, rfl⟩
abbrev main_while0b_v82 : Ref sig .tc := ⟨.hbm, 74, rfl⟩
abbrev main_while0b_v83 : Ref sig .tc := ⟨.hbm, 75, rfl⟩
abbrev main_while0b_v84 : Ref sig .tc := ⟨.hbm, 76, rfl⟩
abbrev main_while0b_v85 : Ref sig .tc := ⟨.hbm, 77, rfl⟩
abbrev main_while0b_v86 : Ref sig .tc := ⟨.hbm, 78, rfl⟩
abbrev main_while0b_cst_37 : Ref sig .tc := ⟨.hbm, 79, rfl⟩
abbrev main_while0b_v87 : Ref sig .tc := ⟨.hbm, 80, rfl⟩
abbrev main_while0b_v88 : Ref sig .tc := ⟨.hbm, 81, rfl⟩
abbrev main_while0b_v89 : Ref sig .tc := ⟨.hbm, 82, rfl⟩
abbrev main_while0b_v90 : Ref sig .tc := ⟨.hbm, 83, rfl⟩
abbrev main_while0b_v91 : Ref sig .tc := ⟨.hbm, 84, rfl⟩
abbrev main_while0b_v92 : Ref sig .tc := ⟨.hbm, 85, rfl⟩
abbrev main_while0b_cst_38 : Ref sig .tc := ⟨.hbm, 86, rfl⟩
abbrev main_while0b_v93 : Ref sig .tc := ⟨.hbm, 87, rfl⟩
abbrev main_while0b_v94 : Ref sig .tc := ⟨.hbm, 88, rfl⟩
abbrev main_while0b_v95 : Ref sig .tc := ⟨.hbm, 89, rfl⟩
abbrev main_while0b_cst_39 : Ref sig .tc := ⟨.hbm, 90, rfl⟩
abbrev main_while0b_v96 : Ref sig .tc := ⟨.hbm, 91, rfl⟩
abbrev main_while0b_v97 : Ref sig .tc := ⟨.hbm, 92, rfl⟩
abbrev main_while0b_v98 : Ref sig .tc := ⟨.hbm, 93, rfl⟩
abbrev main_while0b_v99 : Ref sig .tc := ⟨.hbm, 94, rfl⟩
abbrev main_while0b_v100 : Ref sig .tc := ⟨.hbm, 95, rfl⟩
abbrev main_while0b_cst_40 : Ref sig .tc := ⟨.hbm, 96, rfl⟩
abbrev main_while0b_v101 : Ref sig .tc := ⟨.hbm, 97, rfl⟩
abbrev main_while0b_v102 : Ref sig .tc := ⟨.hbm, 98, rfl⟩
abbrev main_while0b_v103 : Ref sig .tc := ⟨.hbm, 99, rfl⟩
abbrev main_while0b_v104 : Ref sig .tc := ⟨.hbm, 100, rfl⟩
abbrev main_while0b_v105 : Ref sig .tc := ⟨.hbm, 101, rfl⟩
abbrev main_while0b_v106 : Ref sig .tc := ⟨.hbm, 102, rfl⟩
abbrev main_while0b_cst_41 : Ref sig .tc := ⟨.hbm, 103, rfl⟩
abbrev main_while0b_v107 : Ref sig .tc := ⟨.hbm, 104, rfl⟩
abbrev main_while0b_v108 : Ref sig .tc := ⟨.hbm, 105, rfl⟩
abbrev main_while0b_v109 : Ref sig .tc := ⟨.hbm, 106, rfl⟩
abbrev main_while0b_cst_42 : Ref sig .tc := ⟨.hbm, 107, rfl⟩
abbrev main_while0b_v110 : Ref sig .tc := ⟨.hbm, 108, rfl⟩
abbrev main_while0b_v111 : Ref sig .tc := ⟨.hbm, 109, rfl⟩
abbrev main_while0b_v112 : Ref sig .tc := ⟨.hbm, 110, rfl⟩
abbrev main_while0b_v113 : Ref sig .tc := ⟨.hbm, 111, rfl⟩
abbrev main_while0b_v114 : Ref sig .tc := ⟨.hbm, 112, rfl⟩
abbrev main_while0b_cst_43 : Ref sig .tc := ⟨.hbm, 113, rfl⟩
abbrev main_while0b_v115 : Ref sig .tc := ⟨.hbm, 114, rfl⟩
abbrev main_while0b_v116 : Ref sig .tc := ⟨.hbm, 115, rfl⟩
abbrev main_while0b_v117 : Ref sig .tc := ⟨.hbm, 116, rfl⟩
abbrev main_while0b_v118 : Ref sig .tc := ⟨.hbm, 117, rfl⟩
abbrev main_while0b_v119 : Ref sig .tc := ⟨.hbm, 118, rfl⟩
abbrev main_while0b_v120 : Ref sig .tc := ⟨.hbm, 119, rfl⟩
abbrev main_while0b_cst_44 : Ref sig .tc := ⟨.hbm, 120, rfl⟩
abbrev main_while0b_v121 : Ref sig .tc := ⟨.hbm, 121, rfl⟩
abbrev main_while0b_v122 : Ref sig .tc := ⟨.hbm, 122, rfl⟩
abbrev main_while0b_v123 : Ref sig .tc := ⟨.hbm, 123, rfl⟩
abbrev main_while0b_cst_45 : Ref sig .tc := ⟨.hbm, 124, rfl⟩
abbrev main_while0b_v124 : Ref sig .tc := ⟨.hbm, 125, rfl⟩
abbrev main_while0b_v125 : Ref sig .tc := ⟨.hbm, 126, rfl⟩
abbrev main_while0b_v126 : Ref sig .tc := ⟨.hbm, 127, rfl⟩
abbrev main_while0b_v127 : Ref sig .tc := ⟨.hbm, 128, rfl⟩
abbrev main_while0b_v128 : Ref sig .tc := ⟨.hbm, 129, rfl⟩
abbrev main_while0b_cst_46 : Ref sig .tc := ⟨.hbm, 130, rfl⟩
abbrev main_while0b_v129 : Ref sig .tc := ⟨.hbm, 131, rfl⟩
abbrev main_while0b_v130 : Ref sig .tc := ⟨.hbm, 132, rfl⟩
abbrev main_while0b_v131 : Ref sig .tc := ⟨.hbm, 133, rfl⟩
abbrev main_while0b_v132 : Ref sig .tc := ⟨.hbm, 134, rfl⟩
abbrev main_while0b_v133 : Ref sig .tc := ⟨.hbm, 135, rfl⟩
abbrev main_while0b_v134 : Ref sig .tc := ⟨.hbm, 136, rfl⟩
abbrev main_while0b_cst_47 : Ref sig .tc := ⟨.hbm, 137, rfl⟩
abbrev main_while0b_v135 : Ref sig .tc := ⟨.hbm, 138, rfl⟩
abbrev main_while0b_v136 : Ref sig .tc := ⟨.hbm, 139, rfl⟩
abbrev main_while0b_v137 : Ref sig .tc := ⟨.hbm, 140, rfl⟩
abbrev main_while0b_cst_48 : Ref sig .tc := ⟨.hbm, 141, rfl⟩
abbrev main_while0b_v138 : Ref sig .tc := ⟨.hbm, 142, rfl⟩
abbrev main_while0b_v139 : Ref sig .tc := ⟨.hbm, 143, rfl⟩
abbrev main_while0b_v140 : Ref sig .tc := ⟨.hbm, 144, rfl⟩
abbrev main_while0b_v141 : Ref sig .tc := ⟨.hbm, 145, rfl⟩
abbrev main_while0b_v142 : Ref sig .tc := ⟨.hbm, 146, rfl⟩
abbrev main_while0b_cst_49 : Ref sig .tc := ⟨.hbm, 147, rfl⟩
abbrev main_while0b_v143 : Ref sig .tc := ⟨.hbm, 148, rfl⟩
abbrev main_while0b_v144 : Ref sig .tc := ⟨.hbm, 149, rfl⟩
abbrev main_while0b_v145 : Ref sig .tc := ⟨.hbm, 150, rfl⟩
abbrev main_while0b_v146 : Ref sig .tc := ⟨.hbm, 151, rfl⟩
abbrev main_while0b_v147 : Ref sig .tc := ⟨.hbm, 152, rfl⟩
abbrev main_while0b_v148 : Ref sig .tc := ⟨.hbm, 153, rfl⟩
abbrev main_while0b_cst_50 : Ref sig .tc := ⟨.hbm, 154, rfl⟩
abbrev main_while0b_v149 : Ref sig .tc := ⟨.hbm, 155, rfl⟩
abbrev main_while0b_v150 : Ref sig .tc := ⟨.hbm, 156, rfl⟩
abbrev main_while0b_v151 : Ref sig .tc := ⟨.hbm, 157, rfl⟩
abbrev main_while0b_cst_51 : Ref sig .tc := ⟨.hbm, 158, rfl⟩
abbrev main_while0b_v152 : Ref sig .tc := ⟨.hbm, 159, rfl⟩
abbrev main_while0b_v153 : Ref sig .tc := ⟨.hbm, 160, rfl⟩
abbrev main_while0b_c_52 : Ref sig .tc := ⟨.hbm, 161, rfl⟩
abbrev main_while0b_v154 : Ref sig .tc := ⟨.hbm, 162, rfl⟩
abbrev main_cst_6 : Ref sig .tc := ⟨.hbm, 163, rfl⟩
abbrev main_v32 : Ref sig .tc := ⟨.hbm, 164, rfl⟩
abbrev main_cst_7 : Ref sig .tc := ⟨.hbm, 165, rfl⟩
abbrev main_v33 : Ref sig .tc := ⟨.hbm, 166, rfl⟩
abbrev main_v34 : Ref sig .tc := ⟨.hbm, 167, rfl⟩
abbrev main_v35 : Ref sig .tc := ⟨.hbm, 168, rfl⟩
abbrev main_cst_8 : Ref sig .tc := ⟨.hbm, 169, rfl⟩
abbrev main_v36 : Ref sig .tc := ⟨.hbm, 170, rfl⟩
abbrev main_v37 : Ref sig .tc := ⟨.hbm, 171, rfl⟩
abbrev main_cst_9 : Ref sig .tc := ⟨.hbm, 172, rfl⟩
abbrev main_v38 : Ref sig .tc := ⟨.hbm, 173, rfl⟩
abbrev main_v39 : Ref sig .tc := ⟨.hbm, 174, rfl⟩
abbrev main_v40 : Ref sig .tc := ⟨.hbm, 175, rfl⟩
abbrev main_cst_10 : Ref sig .tc := ⟨.hbm, 176, rfl⟩
abbrev main_v41 : Ref sig .tc := ⟨.hbm, 177, rfl⟩
abbrev main_v42 : Ref sig .tc := ⟨.hbm, 178, rfl⟩
abbrev main_cst_11 : Ref sig .tc := ⟨.hbm, 179, rfl⟩
abbrev main_v43 : Ref sig .tc := ⟨.hbm, 180, rfl⟩
abbrev main_v44 : Ref sig .tc := ⟨.hbm, 181, rfl⟩
abbrev main_cst_12 : Ref sig .tc := ⟨.hbm, 182, rfl⟩
abbrev main_v45 : Ref sig .tc := ⟨.hbm, 183, rfl⟩
abbrev main_v46 : Ref sig .tc := ⟨.hbm, 184, rfl⟩
abbrev main_v47 : Ref sig .tc := ⟨.hbm, 185, rfl⟩
abbrev main_v48 : Ref sig .tc := ⟨.hbm, 186, rfl⟩
abbrev main_cst_13 : Ref sig .tc := ⟨.hbm, 187, rfl⟩
abbrev main_v49 : Ref sig .tc := ⟨.hbm, 188, rfl⟩
abbrev main_v50 : Ref sig .tc := ⟨.hbm, 189, rfl⟩
abbrev main_cst_14 : Ref sig .tc := ⟨.hbm, 190, rfl⟩
abbrev main_v51 : Ref sig .tc := ⟨.hbm, 191, rfl⟩
abbrev main_v52 : Ref sig .tc := ⟨.hbm, 192, rfl⟩
abbrev main_cst_15 : Ref sig .tc := ⟨.hbm, 193, rfl⟩
abbrev main_v53 : Ref sig .tc := ⟨.hbm, 194, rfl⟩
abbrev main_v54 : Ref sig .tc := ⟨.hbm, 195, rfl⟩
abbrev main_v55 : Ref sig .tc := ⟨.hbm, 196, rfl⟩
abbrev main_cst_16 : Ref sig .tc := ⟨.hbm, 197, rfl⟩
abbrev main_v56 : Ref sig .tc := ⟨.hbm, 198, rfl⟩
abbrev main_cst_17 : Ref sig .tc := ⟨.hbm, 199, rfl⟩
abbrev main_v57 : Ref sig .tc := ⟨.hbm, 200, rfl⟩
abbrev main_v58 : Ref sig .tc := ⟨.hbm, 201, rfl⟩
abbrev main_v59 : Ref sig .tc := ⟨.hbm, 202, rfl⟩
abbrev main_cst_18 : Ref sig .tc := ⟨.hbm, 203, rfl⟩
abbrev main_v60 : Ref sig .tc := ⟨.hbm, 204, rfl⟩
abbrev main_cst_19 : Ref sig .tc := ⟨.hbm, 205, rfl⟩
abbrev main_v61 : Ref sig .tc := ⟨.hbm, 206, rfl⟩
abbrev main_v62 : Ref sig .tc := ⟨.hbm, 207, rfl⟩
abbrev main_v63 : Ref sig .tc := ⟨.hbm, 208, rfl⟩
abbrev main_v64 : Ref sig .tc := ⟨.hbm, 209, rfl⟩
abbrev main_cst_20 : Ref sig .tc := ⟨.hbm, 210, rfl⟩
abbrev main_v65 : Ref sig .tc := ⟨.hbm, 211, rfl⟩
abbrev main_cst_21 : Ref sig .tc := ⟨.hbm, 212, rfl⟩
abbrev main_v66 : Ref sig .tc := ⟨.hbm, 213, rfl⟩
abbrev main_v67 : Ref sig .tc := ⟨.hbm, 214, rfl⟩
abbrev main_v68 : Ref sig .tc := ⟨.hbm, 215, rfl⟩

abbrev nD : Nat := 1
abbrev τ : Topo := Topo.v7x

variable {F : FTy → Type} [FloatOps F]

abbrev main_while0_count : Scf.Loop 32 := ⟨0#32, 10#32, 1#32⟩
-- ==== Proof.Half.lean ====
/- The half iteration both kernels compute, as one function of the potentials and the cost: a running maximum over the
   48 source points, then a running sum of powers of two below it. -/
module

public import Idealize.ShloMosaic.PureOps.Contract

@[expose] public section

noncomputable section

namespace Cert.Sinkhorn

open Idealize.ShloMosaic

/-- The shapes of a block: a row of 128 lanes, 48 rows, and 48 such blocks. -/
abbrev Lane : Shape := ⟨1, ![128]⟩
abbrev Row : Shape := ⟨2, ![1, 128]⟩
abbrev Mat : Shape := ⟨2, ![48, 128]⟩
abbrev Slab : Shape := ⟨3, ![1, 48, 128]⟩
abbrev Cube : Shape := ⟨3, ![48, 48, 128]⟩

variable {F : FTy → Type} [FloatOps F]

/-- Row `i` of a block lies in it. -/
theorem slices_row (i : ℕ) (hi : i < 48) : Mat.Slices ![i, 0] Row :=
  ⟨rfl, fun a => by fin_cases a <;> simp <;> omega⟩

/-- Slab `i` of a cost cube lies in it. -/
theorem slices_slab (i : ℕ) (hi : i < 48) : Cube.Slices ![i, 0, 0] Slab :=
  ⟨rfl, fun a => by fin_cases a <;> simp <;> omega⟩

theorem casts_row_lane : Row.ShapeCasts Lane := by decide
theorem casts_lane_row : Lane.ShapeCasts Row := by decide
theorem casts_slab_mat : Slab.ShapeCasts Mat := by decide
theorem broadcasts_row : Row.Broadcasts Mat := by decide

/-- Row `i` of the potentials, repeated over the 48 target points. -/
def rowAt (f : FVec F Mat .f32) (i : ℕ) (hi : i < 48) : FVec F Mat .f32 :=
  broadcastTo Mat (shapeCast Row (shapeCast Lane (extractStridedSlice Row ![i, 0] f (slices_row i hi)) casts_row_lane)
    casts_lane_row) broadcasts_row

/-- The costs of source point `i`. -/
def slabAt (C : FVec F Cube .f32) (i : ℕ) (hi : i < 48) : FVec F Mat .f32 :=
  shapeCast Mat (extractStridedSlice Slab ![i, 0, 0] C (slices_slab i hi)) casts_slab_mat

/-- The maximum over the source points `0 … n` of potential minus cost. -/
def runMax (f : FVec F Mat .f32) (C : FVec F Cube .f32) : (n : ℕ) → n < 48 → FVec F Mat .f32
  | 0, h => subf (rowAt f 0 h) (slabAt C 0 h)
  | n + 1, h => maximumf (runMax f C n (Nat.lt_of_succ_lt h)) (subf (rowAt f (n + 1) h) (slabAt C (n + 1) h))

/-- The sum over the source points `0 … n` of two to the potential minus the cost shifted by `m`. -/
def runSum (f : FVec F Mat .f32) (C : FVec F Cube .f32) (m : FVec F Mat .f32) : (n : ℕ) → n < 48 → FVec F Mat .f32
  | 0, h => exp2 (subf (rowAt f 0 h) (addf (slabAt C 0 h) m))
  | n + 1, h => addf (runSum f C m n (Nat.lt_of_succ_lt h))
      (exp2 (subf (rowAt f (n + 1) h) (addf (slabAt C (n + 1) h) m)))

/-- A half iteration given the maximum `m`: minus (the shifted log-sum plus the log of the weight). -/
def halfAt (log2e la2 : F .f32) (f : FVec F Mat .f32) (C : FVec F Cube .f32) (m : FVec F Mat .f32) : FVec F Mat .f32 :=
  subf (broadcast Mat (Scalar.ofBits .f32 0x00000000#32))
    (addf (addf m (mulf (log (runSum f C m 47 (by decide))) (broadcast Mat log2e))) (broadcast Mat la2))

/-- A half iteration: the potentials of the target points from those of the source points and the cost. -/
def half (log2e la2 : F .f32) (f : FVec F Mat .f32) (C : FVec F Cube .f32) : FVec F Mat .f32 :=
  halfAt log2e la2 f C (runMax f C 47 (by decide))

/-- The six potentials a trip carries: the source side of the three pairs, then their target side. -/
abbrev Six (F : FTy → Type) : Type :=
  FVec F Mat .f32 × FVec F Mat .f32 × FVec F Mat .f32 × FVec F Mat .f32 × FVec F Mat .f32 × FVec F Mat .f32

/-- One full iteration of the three problems: the target potentials from the source ones, then the source potentials
    from the new target ones. Only the first pair has a cost (`C`) different from its transpose (`C'`). -/
def trip (log2e la2 : F .f32) (C C' D E : FVec F Cube .f32) (p : Six F) : Six F :=
  (half log2e la2 (half log2e la2 p.1 C) C', half log2e la2 (half log2e la2 p.2.1 D) D,
    half log2e la2 (half log2e la2 p.2.2.1 E) E,
    half log2e la2 p.1 C, half log2e la2 p.2.1 D, half log2e la2 p.2.2.1 E)

end Cert.Sinkhorn

end
-- ==== Proof.TripIdeal.lean ====
/- The region of the idealised kernel's loop is one full iteration of the three problems. -/
module

public import proofs.«01_k».proof.Proof.Gen.KernelIdeal.Loops
public import proofs.«01_k».proof.Proof.Half

@[expose] public section

set_option maxRecDepth 65536

noncomputable section

namespace Cert.KernelIdeal.Gen

open Idealize.ShloMosaic Idealize.ShloMosaic.Tactic Idealize.SL.Sem Cert.Sinkhorn

variable {F : FTy → Type} [FloatOps F] [Named F]

/-- The pure value of one trip. -/
def tripOf (v0 v2 : Vec F S48x128 .f32) : Six F → Six F :=
  trip (Named.named κ "log2e" 0x3FB8AA3B#32) (Named.named κ "la2" 0xC0B49A78#32) (k0_pay219 v0 v2) (k0_pay220 v0 v2)
    (k0_pay221 v2) (k0_pay222 v0)

/-- A trip of the loop runs no effect and yields `tripOf`. -/
theorem k0_t1_body_eq (i : grid0.Coords) (arg1 : Memref sig .tc .vmem S50x128 .f32) (harg1 : arg1.IsWhole)
    (arg2 : Memref sig .tc .vmem S50x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x3x128 .f32) (harg5 : arg5.IsWhole) (v0 v2 : Vec F S48x128 .f32) :
    k0_t1_body i arg1 harg1 arg2 harg2 arg3 harg3 arg4 harg4 arg5 harg5 v0 v2
      = fun _ acc => .ret (tripOf v0 v2 acc) := by
  sl_kernel_rfl

/-- The potentials after the ten trips. -/
def loopOf (v0 v2 : Vec F S48x128 .f32) : Six F :=
  Scf.fold (n := k0_t1_loop.trips) (fun _ => tripOf v0 v2)
    (k0_pay223, k0_pay223, k0_pay223, k0_pay223, k0_pay223, k0_pay223)

/-- The loop runs no effect and returns `loopOf`. -/
theorem loop_eq (i : grid0.Coords) (arg1 : Memref sig .tc .vmem S50x128 .f32) (harg1 : arg1.IsWhole)
    (arg2 : Memref sig .tc .vmem S50x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x3x128 .f32) (harg5 : arg5.IsWhole) (v0 v2 : Vec F S48x128 .f32) :
    Scf.Loop.for k0_t1_loop k0_t1_ok (k0_pay223 (F := F), k0_pay223 (F := F), k0_pay223 (F := F), k0_pay223 (F := F),
        k0_pay223 (F := F), k0_pay223 (F := F))
        (k0_t1_body i arg1 harg1 arg2 harg2 arg3 harg3 arg4 harg4 arg5 harg5 v0 v2)
      = .ret (loopOf v0 v2) :=
  Scf.for_pure _ _ _ _ _ _ _ fun k acc => by rw [k0_t1_body_eq]

end Cert.KernelIdeal.Gen

end
-- ==== Proof.RunIdeal.lean ====
/- The idealised kernel's body at one grid point, and its launch: what the body leaves in the result's block, and that
   the whole program runs, changes no argument and ends with every counter at zero. -/
module

public import proofs.«01_k».proof.Proof.TripIdeal
public import proofs.«01_k».proof.Proof.Gen.KernelIdeal.Frame
public import Idealize.ShloMosaic.Lib.Ring
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body on any staging buffers -/

/-- The pieces the body stores into the result's block when its four inputs hold `x0 … x3`, with the proof that the
    body, given the five buffers, hands them back with the inputs unchanged and those pieces written. -/
noncomputable def bodyRun (c : Dev nD) (i : grid0.Coords)
    (arg1 : Memref sig .tc .vmem S50x128 .f32) (harg1 : arg1.IsWhole)
    (arg2 : Memref sig .tc .vmem S50x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x3x128 .f32) (harg5 : arg5.IsWhole)
    (x0 x1 : Vec F S50x128 .f32) (x2 x3 : Vec F S1x128 .f32) :
    { L : List (View.Piece (Elt F) S1x3x128 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ (∃ d, owns (c : Thread nD τ) arg5 fullShare d)
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L))
              -∗ K ⟨⟩))
          ⊢ wp frame (wpE (defs₀ (F := F)) Variants.none c none) E
              (cc0__body i arg1 harg1 arg2 harg2 arg3 harg3 arg4 harg4 arg5 harg5) K } := by
  refine ⟨?_, fun E K => ?run⟩
  case run =>
    simp only [cc0__body_eq_skeleton]; unfold cc0__body_skel
    simp only [k0_part89_eq_skeleton]; unfold k0_part89_skel
    simp only [loop_eq]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1
    obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

/-- The stored pieces cover the result's block: it is one store of the whole block. -/
theorem bodyRun_cover (c : Dev nD) (i : grid0.Coords)
    (arg1 : Memref sig .tc .vmem S50x128 .f32) (harg1 : arg1.IsWhole)
    (arg2 : Memref sig .tc .vmem S50x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x3x128 .f32) (harg5 : arg5.IsWhole)
    (x0 x1 : Vec F S50x128 .f32) (x2 x3 : Vec F S1x128 .f32) (y : S1x3x128.Idx) :
    ∃ pc ∈ (bodyRun c i arg1 harg1 arg2 harg2 arg3 harg3 arg4 harg4 arg5 harg5 x0 x1 x2 x3).1, y ∈ pc.1.set :=
  View.cover_of_tiledL (bodyRun c i arg1 harg1 arg2 harg2 arg3 harg3 arg4 harg4 arg5 harg5 x0 x1 x2 x3).1 S1x3x128.size
    (by sl_kernel_rfl) y

/-- The staging buffer the result's block is read through. -/
abbrev outView : View sig .tc .vmem S1x3x128 .f32 :=
  (Memref.whole cc0_stg4_0 : Memref sig .tc .vmem S1x3x128 .f32).view

/-- What the body leaves in the result's block. -/
def bodyOut (c : Dev nD) (i : grid0.Coords)
    (arg1 : Memref sig .tc .vmem S50x128 .f32) (harg1 : arg1.IsWhole)
    (arg2 : Memref sig .tc .vmem S50x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x3x128 .f32) (harg5 : arg5.IsWhole)
    (x0 x1 : Vec F S50x128 .f32) (x2 x3 : Vec F S1x128 .f32) : Vec F S1x3x128 .f32 :=
  outView.read (Elt F) (outView.writes (Elt F) outView.junk
    (bodyRun c i arg1 harg1 arg2 harg2 arg3 harg3 arg4 harg4 arg5 harg5 x0 x1 x2 x3).1)

/-! ## The staging buffers of a grid point -/

abbrev stage0 (t : Fin cfg0.N) : Memref sig .tc .vmem S50x128 .f32 := win0_0.stage (cfg0.slots t 0)
abbrev stage1 (t : Fin cfg0.N) : Memref sig .tc .vmem S50x128 .f32 := win0_1.stage (cfg0.slots t 1)
abbrev stage2 (t : Fin cfg0.N) : Memref sig .tc .vmem S1x128 .f32 := win0_2.stage (cfg0.slots t 2)
abbrev stage3 (t : Fin cfg0.N) : Memref sig .tc .vmem S1x128 .f32 := win0_3.stage (cfg0.slots t 3)
abbrev stage4 (t : Fin cfg0.N) : Memref sig .tc .vmem S1x3x128 .f32 := win0_4.stage (cfg0.slots t 4)
abbrev whole0 (t : Fin cfg0.N) : (stage0 t).IsWhole := hstage0_0 ((cfg0.slots t 0).cast nbuf0_0)
abbrev whole1 (t : Fin cfg0.N) : (stage1 t).IsWhole := hstage0_1 ((cfg0.slots t 1).cast nbuf0_1)
abbrev whole2 (t : Fin cfg0.N) : (stage2 t).IsWhole := hstage0_2 ((cfg0.slots t 2).cast nbuf0_2)
abbrev whole3 (t : Fin cfg0.N) : (stage3 t).IsWhole := hstage0_3 ((cfg0.slots t 3).cast nbuf0_3)
abbrev whole4 (t : Fin cfg0.N) : (stage4 t).IsWhole := hstage0_4 ((cfg0.slots t 4).cast nbuf0_4)

/-- The result's block after grid point `t`. -/
def blockOut (c : Dev nD) (t : Fin cfg0.N) : Vec F S1x3x128 .f32 :=
  bodyOut c (grid0.coords t) (stage0 t) (whole0 t) (stage1 t) (whole1 t) (stage2 t) (whole2 t) (stage3 t) (whole3 t)
    (stage4 t) (whole4 t) (iblk m c 0 t) (iblk m c 1 t) (iblk m c 2 t) (iblk m c 3 t)

/-! ## The launch -/

/-- What the launch is proved with: the arrays as the region finds them; after a point, the inputs' buffers at their
    blocks and the result's at `blockOut`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blockOut m c t
  Φ _ := Pipeline.ΦA spec0 c
  q _ := fullShare
  owed _ := 0

theorem dats_A (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_out (c : Dev nD) (t : Fin cfg0.N) : (dats m 0 c).after 4 t = blockOut m c t := by dsimp only [dats]

theorem before_in0 (c : Dev nD) (t : Fin cfg0.N) (d) : (dats m 0 c).before 0 t d = iblk m c 0 t :=
  before0_0_of m (dats m 0 c) (dats_A m c 0) (after_in0 m c) t d
theorem before_in1 (c : Dev nD) (t : Fin cfg0.N) (d) : (dats m 0 c).before 1 t d = iblk m c 1 t :=
  before0_1_of m (dats m 0 c) (dats_A m c 1) (after_in1 m c) t d
theorem before_in2 (c : Dev nD) (t : Fin cfg0.N) (d) : (dats m 0 c).before 2 t d = iblk m c 2 t :=
  before0_2_of m (dats m 0 c) (dats_A m c 2) (after_in2 m c) t d
theorem before_in3 (c : Dev nD) (t : Fin cfg0.N) (d) : (dats m 0 c).before 3 t d = iblk m c 3 t :=
  before0_3_of m (dats m 0 c) (dats_A m c 3) (after_in3 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stage0 t) fullShare ((dats m 0 c).before 0 t d))
    ∗ (∃ d, owns (c : Thread nD τ) (stage1 t) fullShare ((dats m 0 c).before 1 t d))
    ∗ (∃ d, owns (c : Thread nD τ) (stage2 t) fullShare ((dats m 0 c).before 2 t d))
    ∗ (∃ d, owns (c : Thread nD τ) (stage3 t) fullShare ((dats m 0 c).before 3 t d))
    ∗ (∃ d, owns (c : Thread nD τ) (stage4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (stage0 t) fullShare ((dats m 0 c).after 0 t)
    ∗ owns (c : Thread nD τ) (stage1 t) fullShare ((dats m 0 c).after 1 t)
    ∗ owns (c : Thread nD τ) (stage2 t) fullShare ((dats m 0 c).after 2 t)
    ∗ owns (c : Thread nD τ) (stage3 t) fullShare ((dats m 0 c).after 3 t)
    ∗ owns (c : Thread nD τ) (stage4 t) fullShare ((dats m 0 c).after 4 t))

/-- The body meets its specification at every point. -/
theorem body_sound (c : Dev nD) (t : Fin cfg0.N) :
    bodyPre m c t ⊢ wp frame (wpE (defs₀ (F := F)) Variants.none c none) Set.univ (bodyAt0 t)
      (fun _ => bodyPost m c t) := by
  unfold bodyPre bodyPost bodyAt0
  simp only [before_in0, before_in1, before_in2, before_in3]
  rw [show (dats m 0 c).Φ t.succ = (dats m 0 c).Φ t.castSucc from rfl,
    show (dats m 0 c).owesAt () t.succ = (dats m 0 c).owesAt () t.castSucc from rfl,
    after_in0, after_in1, after_in2, after_in3, after_out]
  unfold blockOut bodyOut
  iintro ⟨HΦ, Ho, ⟨%d0, H0⟩, ⟨%d1, H1⟩, ⟨%d2, H2⟩, ⟨%d3, H3⟩, ⟨%d4, H4⟩⟩
  iapply ((bodyRun c (grid0.coords t) _ _ _ _ _ _ _ _ _ _ (iblk m c 0 t) (iblk m c 1 t) (iblk m c 2 t)
    (iblk m c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (bodyRun_cover c _ _ _ _ _ _ _ _ _ _ _ _ _ _ _)

/-- The program's table of bodies, at a point's buffers. -/
theorem body_row (t : Fin cfg0.N) :
    defs₀ (F := F) .tc cfg0.body (cfg0.bodyArgs t (cfg0.slots t)) = bodyAt0 t := by
  unfold defs₀; rw [Defs.onTc_tc]

/-- The same, in the launch theorem's form. -/
theorem body_obligation (c : Dev nD) :
    BodyObligation (dats (F := F) m 0 c) (defs₀ (F := F)) Variants.none () Set.univ := fun t => by
  rw [bigSep_W0, bigSep_W0, body_row]
  exact triple_restated (body_sound m c t) rfl .rfl fun _ => .rfl

set_option backward.isDefEq.respectTransparency.types false in
set_option maxHeartbeats 800000 in
/-- The whole program runs to the end; the arrays of the region end at what `dats` says, every other array as the host
    operations after the region leave it, and every counter at zero. -/
theorem run_quiet : θ_run defs (onTc (τ := τ) (main (F := F))) (s₀ m ρ) (fun r =>
    (Pipeline.FramePost cfgs (dats m) 0 (Pipeline.afterTail₀ cfgs (dats m) 0 (V0 m) [hostOps1])) r
      ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh)
    (hkeep := sfx_keeps) (hmain := hmain m Variants.none) (hA := dats_A m) (hΦ := fun _ _ => rfl)

/-- `run_quiet` without the counters. -/
theorem run : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiet m ρ)

/-- The program ends with its arguments unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (dats_A m) (run m ρ)) ((θ_run defs _ _).mono (fun _ h => h.2) (run_quiet m ρ))

end Cert.KernelIdeal.Gen

end
-- ==== Proof.HalfStep.lean ====
/- One half iteration on the extended reals: the kernel's (in units of log 2, shifted by the maximum) and the
   reference's (in natural units, not shifted) agree up to the factor between the units, infinite costs included. -/
module

public import Idealize.ShloMosaic.PureOps.Ideal

@[expose] public section

noncomputable section

namespace Cert.Sinkhorn

open Idealize.ShloMosaic

/-- The factor between the units: a potential or a cost of the reference is this times the kernel's. -/
def unit : ℝ := Real.log 2 / 400

theorem unit_pos : 0 < unit := div_pos (Real.log_pos (by norm_num)) (by norm_num)

variable {ι : Type} [Fintype ι] [Nonempty ι]

/-- The kernel's half iteration shifted by `m`. -/
def shifted (F C : ι → EReal) (m : EReal) : EReal :=
  0 - ((m + Ideal.log (∑ i, Ideal.exp2 (F i - (C i + m))) * (((Real.log 2)⁻¹ : ℝ) : EReal))
    + ((Real.log (1 / 50) * (Real.log 2)⁻¹ : ℝ) : EReal))

/-- The kernel's half iteration for one target point: potentials `F` and costs `C` of the source points. -/
def fromSources (F C : ι → EReal) : EReal := shifted F C (Finset.univ.sup fun i => F i - C i)

/-- The reference's half iteration for one target point. -/
def plain (f c : ι → EReal) : EReal :=
  Ideal.div (-(Ideal.log (∑ i, Ideal.exp ((f i - c i) * ((400 : ℝ) : EReal) + ((Real.log (1 / 50) : ℝ) : EReal)))))
    ((400 : ℝ) : EReal)

/-- What a half iteration needs: no potential is `-∞`, no cost is negative, and a point of infinite potential is
    infinitely far away. -/
structure Good (F C : ι → EReal) : Prop where
  pot : ∀ i, F i ≠ ⊥
  cost : ∀ i, 0 ≤ C i
  far : ∀ i, F i = ⊤ → C i = ⊤

/-! ### All points infinitely far away -/

/-- If every cost is infinite the kernel's new potential is infinite. -/
theorem fromSources_top {F C : ι → EReal} (h : Good F C) (hC : ∀ i, C i = ⊤) : fromSources F C = ⊤ := by
  have hm : (Finset.univ.sup fun i => F i - C i) = ⊥ := by
    rw [Finset.sup_eq_bot_iff]; intro i _; rw [hC i]; exact EReal.sub_top _
  have ht : ∀ i, Ideal.exp2 (F i - (C i + ⊥)) = ⊤ := by
    intro i
    rw [EReal.add_bot, EReal.sub_bot (h.pot i)]; rfl
  have hs : (∑ i : ι, Ideal.exp2 (F i - (C i + ⊥))) = ⊤ := by
    obtain ⟨k⟩ := ‹Nonempty ι›
    refine top_le_iff.mp ?_
    calc (⊤ : EReal) = Ideal.exp2 (F k - (C k + ⊥)) := (ht k).symm
      _ ≤ _ := Finset.single_le_sum (f := fun i => Ideal.exp2 (F i - (C i + ⊥)))
        (fun i _ => by rw [ht i]; exact le_top) (Finset.mem_univ k)
  unfold fromSources shifted
  rw [hm, hs]
  simp only [EReal.bot_add, zero_sub, EReal.neg_bot]

/-- If every cost is infinite the reference's new potential is infinite. -/
theorem plain_top {f c : ι → EReal} (hc : ∀ i, c i = ⊤) : plain f c = ⊤ := by
  have ht : ∀ i, Ideal.exp ((f i - c i) * ((400 : ℝ) : EReal) + ((Real.log (1 / 50) : ℝ) : EReal)) = 0 := by
    intro i
    rw [hc i, EReal.sub_top, EReal.bot_mul_coe_of_pos (by norm_num), EReal.bot_add]; rfl
  unfold plain
  simp only [ht, Finset.sum_const_zero]
  have : Ideal.log 0 = ⊥ := by
    show (if (0 : ℝ) ≤ 0 then (⊥ : EReal) else _) = ⊥
    simp
  rw [this, EReal.neg_bot]
  unfold Ideal.div
  rw [if_neg (by exact_mod_cast (by norm_num : (400 : ℝ) ≠ 0)), ← EReal.coe_inv, EReal.top_mul_coe_of_pos (by norm_num)]

/-! ### Some point at a finite distance -/

/-- The weight of a source point: two to its potential minus its cost, nothing from infinitely far away. -/
def mass (F C : ι → EReal) (i : ι) : ℝ := if C i = ⊤ then 0 else Real.rpow 2 ((F i).toReal - (C i).toReal)

theorem mass_nonneg (F C : ι → EReal) (i : ι) : 0 ≤ mass F C i := by
  unfold mass; split
  · exact le_rfl
  · exact Real.rpow_nonneg (by norm_num) _

/-- A point at a finite distance has a finite potential and cost. -/
theorem Good.finite {F C : ι → EReal} (h : Good F C) {i : ι} (hi : C i ≠ ⊤) :
    F i = ((F i).toReal : EReal) ∧ C i = ((C i).toReal : EReal) := by
  have hb : C i ≠ ⊥ := fun e => by have := h.cost i; rw [e] at this; exact absurd this (by simp)
  exact ⟨(EReal.coe_toReal (fun e => hi (h.far i e)) (h.pot i)).symm, (EReal.coe_toReal hi hb).symm⟩

theorem mass_sum_pos {F C : ι → EReal} {k : ι} (hk : C k ≠ ⊤) : 0 < ∑ i, mass F C i := by
  refine Finset.sum_pos' (fun i _ => mass_nonneg F C i) ⟨k, Finset.mem_univ k, ?_⟩
  unfold mass; rw [if_neg hk]; exact Real.rpow_pos_of_pos (by norm_num) _

/-- The logarithm of a positive real. -/
theorem log_coe {r : ℝ} (h : 0 < r) : Ideal.log (r : EReal) = ((Real.log r : ℝ) : EReal) := by
  show (if r ≤ 0 then (⊥ : EReal) else _) = _
  rw [if_neg (not_le.mpr h)]

theorem coe_sum (g : ι → ℝ) : (∑ i, (g i : EReal)) = ((∑ i, g i : ℝ) : EReal) := by
  induction (Finset.univ : Finset ι) using Finset.cons_induction with
  | empty => simp
  | cons a s ha ih => rw [Finset.sum_cons, Finset.sum_cons, ih, EReal.coe_add]

/-- The kernel's half iteration does not depend on a finite shift. -/
theorem shifted_real {F C : ι → EReal} (h : Good F C) {k : ι} (hk : C k ≠ ⊤) (M : ℝ) :
    shifted F C (M : EReal)
      = ((-((Real.log (∑ i, mass F C i) + Real.log (1 / 50)) * (Real.log 2)⁻¹) : ℝ) : EReal) := by
  have hl : Real.log 2 ≠ 0 := (Real.log_pos (by norm_num)).ne'
  have ht : ∀ i, Ideal.exp2 (F i - (C i + (M : EReal))) = ((mass F C i * Real.rpow 2 (-M) : ℝ) : EReal) := by
    intro i
    unfold mass
    by_cases hi : C i = ⊤
    · rw [if_pos hi, hi, EReal.top_add_coe, EReal.sub_top, zero_mul]; rfl
    · obtain ⟨e, e'⟩ := h.finite hi
      rw [if_neg hi]
      generalize (F i).toReal = a at *
      generalize (C i).toReal = b at *
      rw [e, e', ← EReal.coe_add, ← EReal.coe_sub]
      show ((Real.rpow 2 (a - (b + M)) : ℝ) : EReal) = _
      congr 1
      have := Real.rpow_add (by norm_num : (0 : ℝ) < 2) (a - b) (-M)
      rw [show a - (b + M) = a - b + -M by ring]; exact this
  have hS := mass_sum_pos (F := F) hk
  have hp : 0 < Real.rpow 2 (-M) := Real.rpow_pos_of_pos (by norm_num) _
  unfold shifted
  simp only [ht]
  rw [coe_sum, ← Finset.sum_mul, log_coe (mul_pos hS hp), ← EReal.coe_mul, ← EReal.coe_add, ← EReal.coe_add,
    zero_sub, ← EReal.coe_neg, Real.log_mul hS.ne' hp.ne',
    show Real.log (Real.rpow 2 (-M)) = -M * Real.log 2 from Real.log_rpow (by norm_num) _]
  congr 1
  field_simp
  ring

/-- The kernel's half iteration when some point is at a finite distance. -/
theorem fromSources_real {F C : ι → EReal} (h : Good F C) {k : ι} (hk : C k ≠ ⊤) :
    fromSources F C = ((-((Real.log (∑ i, mass F C i) + Real.log (1 / 50)) * (Real.log 2)⁻¹) : ℝ) : EReal) := by
  have hm : ∃ M : ℝ, (Finset.univ.sup fun i => F i - C i) = (M : EReal) := by
    obtain ⟨i, -, hi⟩ := Finset.exists_mem_eq_sup Finset.univ ⟨k, Finset.mem_univ k⟩ fun i => F i - C i
    have hle : F k - C k ≤ Finset.univ.sup fun i => F i - C i :=
      Finset.le_sup (f := fun i => F i - C i) (Finset.mem_univ k)
    by_cases hi' : C i = ⊤
    · rw [hi, hi', EReal.sub_top] at hle
      obtain ⟨e, e'⟩ := h.finite hk
      rw [e, e', ← EReal.coe_sub] at hle
      exact absurd (le_bot_iff.mp hle) (EReal.coe_ne_bot _)
    · obtain ⟨e, e'⟩ := h.finite hi'
      exact ⟨_, by rw [hi, e, e', ← EReal.coe_sub]⟩
  obtain ⟨M, hM⟩ := hm
  unfold fromSources; rw [hM]; exact shifted_real h hk M

/-- The reference's half iteration when some point is at a finite distance. -/
theorem plain_real {F C : ι → EReal} (h : Good F C) {k : ι} (hk : C k ≠ ⊤) :
    plain (fun i => (unit : EReal) * F i) (fun i => (unit : EReal) * C i)
      = ((-(Real.log (∑ i, mass F C i) + Real.log (1 / 50)) * 400⁻¹ : ℝ) : EReal) := by
  have ht : ∀ i, Ideal.exp (((unit : EReal) * F i - (unit : EReal) * C i) * ((400 : ℝ) : EReal)
      + ((Real.log (1 / 50) : ℝ) : EReal)) = ((mass F C i * (1 / 50) : ℝ) : EReal) := by
    intro i
    unfold mass
    by_cases hi : C i = ⊤
    · rw [if_pos hi, hi, EReal.coe_mul_top_of_pos unit_pos, EReal.sub_top, EReal.bot_mul_coe_of_pos (by norm_num),
        EReal.bot_add, zero_mul]; rfl
    · obtain ⟨e, e'⟩ := h.finite hi
      rw [if_neg hi]
      generalize (F i).toReal = a at *
      generalize (C i).toReal = b at *
      rw [e, e', ← EReal.coe_mul, ← EReal.coe_mul, ← EReal.coe_sub, ← EReal.coe_mul, ← EReal.coe_add]
      show ((Real.exp ((unit * a - unit * b) * 400 + Real.log (1 / 50)) : ℝ) : EReal) = _
      congr 1
      rw [Real.exp_add, Real.exp_log (by norm_num)]
      congr 1
      show _ = (2 : ℝ) ^ (a - b)
      rw [Real.rpow_def_of_pos (by norm_num)]
      congr 1
      unfold unit; ring
  have hS := mass_sum_pos (F := F) hk
  unfold plain
  simp only [ht]
  rw [coe_sum, ← Finset.sum_mul, log_coe (mul_pos hS (by norm_num)), Real.log_mul hS.ne' (by norm_num), ← EReal.coe_neg]
  unfold Ideal.div
  rw [if_neg (by exact_mod_cast (by norm_num : (400 : ℝ) ≠ 0)), ← EReal.coe_inv, ← EReal.coe_mul]

/-! ### The half iteration -/

/-- The reference's new potential is `unit` times the kernel's. -/
theorem plain_eq {F C : ι → EReal} (h : Good F C) :
    plain (fun i => (unit : EReal) * F i) (fun i => (unit : EReal) * C i) = (unit : EReal) * fromSources F C := by
  by_cases hC : ∀ i, C i = ⊤
  · rw [fromSources_top h hC, plain_top fun i => by rw [hC i]; exact EReal.coe_mul_top_of_pos unit_pos]
    exact (EReal.coe_mul_top_of_pos unit_pos).symm
  · obtain ⟨k, hk⟩ := not_forall.mp hC
    rw [plain_real h hk, fromSources_real h hk, ← EReal.coe_mul]
    congr 1
    have hl : Real.log 2 ≠ 0 := (Real.log_pos (by norm_num)).ne'
    unfold unit; field_simp

/-- The new potential is never `-∞`. -/
theorem fromSources_ne_bot {F C : ι → EReal} (h : Good F C) : fromSources F C ≠ ⊥ := by
  by_cases hC : ∀ i, C i = ⊤
  · rw [fromSources_top h hC]; simp
  · obtain ⟨k, hk⟩ := not_forall.mp hC
    rw [fromSources_real h hk]; exact EReal.coe_ne_bot _

/-- The new potential is infinite only at a point infinitely far from every source point. -/
theorem fromSources_eq_top {F C : ι → EReal} (h : Good F C) (ht : fromSources F C = ⊤) (i : ι) : C i = ⊤ := by
  by_contra hi
  rw [fromSources_real h hi] at ht
  exact EReal.coe_ne_top _ ht

end Cert.Sinkhorn

end
-- ==== Proof.Chain.lean ====
/- The ten iterations of one transport problem on the extended reals: the reference's potentials and transport value are
   the kernel's, scaled by the factor between the units, from any points whatever. -/
module

public import proofs.«01_k».proof.Proof.HalfStep

@[expose] public section

noncomputable section

namespace Cert.Sinkhorn

open Idealize.ShloMosaic

/-! ### Costs -/

/-- The kernel's scale of a point. -/
def scale : ℝ := Real.sqrt (200 * (Real.log 2)⁻¹)

theorem scale_pos : 0 < scale :=
  Real.sqrt_pos.mpr (mul_pos (by norm_num) (inv_pos.mpr (Real.log_pos (by norm_num))))

/-- The kernel's cost between two points: the squared difference of the scaled points. -/
def costK (a b : EReal) : EReal := (a * (scale : EReal) - b * (scale : EReal)) * (a * (scale : EReal) - b * (scale : EReal))

/-- The reference's cost: half the squared difference. -/
def costR (a b : EReal) : EReal := ((1 / 2 : ℝ) : EReal) * ((a - b) * (a - b))

/-- Scaling by a positive real distributes over a difference. -/
theorem scale_sub (a b : EReal) {r : ℝ} (hr : 0 < r) : a * (r : EReal) - b * (r : EReal) = (a - b) * (r : EReal) := by
  induction a with
  | bot => simp [EReal.bot_mul_coe_of_pos hr]
  | top =>
    induction b with
    | bot => simp [EReal.bot_mul_coe_of_pos hr, EReal.top_mul_coe_of_pos hr]
    | top => simp [EReal.bot_mul_coe_of_pos hr, EReal.top_mul_coe_of_pos hr]
    | coe b => rw [EReal.top_mul_coe_of_pos hr, ← EReal.coe_mul, EReal.top_sub_coe, EReal.top_sub_coe, EReal.top_mul_coe_of_pos hr]
  | coe a =>
    induction b with
    | bot => rw [EReal.bot_mul_coe_of_pos hr, ← EReal.coe_mul, EReal.coe_sub_bot, EReal.coe_sub_bot, EReal.top_mul_coe_of_pos hr]
    | top => simp [EReal.bot_mul_coe_of_pos hr, EReal.top_mul_coe_of_pos hr]
    | coe b => rw [← EReal.coe_mul, ← EReal.coe_mul, ← EReal.coe_sub, ← EReal.coe_sub, ← EReal.coe_mul, sub_mul]

theorem square_nonneg (d : EReal) : 0 ≤ d * d := by
  induction d with
  | bot => simp
  | top => simp
  | coe r => rw [← EReal.coe_mul]; exact_mod_cast mul_self_nonneg r

theorem costK_nonneg (a b : EReal) : 0 ≤ costK a b := square_nonneg _

/-- The cost is symmetric. -/
theorem costK_comm (a b : EReal) : costK a b = costK b a := by
  unfold costK
  rw [scale_sub a b scale_pos, scale_sub b a scale_pos]
  induction a with
  | bot => induction b with
    | bot => rfl
    | top => simp [EReal.bot_mul_coe_of_pos scale_pos, EReal.top_mul_coe_of_pos scale_pos]
    | coe b => simp [EReal.bot_mul_coe_of_pos scale_pos, EReal.top_mul_coe_of_pos scale_pos]
  | top => induction b with
    | bot => simp [EReal.bot_mul_coe_of_pos scale_pos, EReal.top_mul_coe_of_pos scale_pos]
    | top => rfl
    | coe b => simp [EReal.bot_mul_coe_of_pos scale_pos, EReal.top_mul_coe_of_pos scale_pos]
  | coe a => induction b with
    | bot => simp [EReal.bot_mul_coe_of_pos scale_pos, EReal.top_mul_coe_of_pos scale_pos]
    | top => simp [EReal.bot_mul_coe_of_pos scale_pos, EReal.top_mul_coe_of_pos scale_pos]
    | coe b =>
      rw [← EReal.coe_sub, ← EReal.coe_sub, ← EReal.coe_mul, ← EReal.coe_mul, ← EReal.coe_mul, ← EReal.coe_mul]
      congr 1; ring

/-- The reference's cost is `unit` times the kernel's. -/
theorem costR_eq (a b : EReal) : costR a b = (unit : EReal) * costK a b := by
  unfold costR costK
  rw [scale_sub a b scale_pos]
  generalize a - b = d
  have hh : (0 : ℝ) < 1 / 2 := by norm_num
  induction d with
  | bot =>
    rw [EReal.bot_mul_coe_of_pos scale_pos, EReal.bot_mul_bot, EReal.coe_mul_top_of_pos hh, EReal.coe_mul_top_of_pos unit_pos]
  | top =>
    rw [EReal.top_mul_coe_of_pos scale_pos, EReal.top_mul_top, EReal.coe_mul_top_of_pos hh, EReal.coe_mul_top_of_pos unit_pos]
  | coe d =>
    rw [← EReal.coe_mul, ← EReal.coe_mul, ← EReal.coe_mul, ← EReal.coe_mul, ← EReal.coe_mul]
    congr 1
    have hs : scale * scale = 200 * (Real.log 2)⁻¹ :=
      Real.mul_self_sqrt (mul_nonneg (by norm_num) (inv_nonneg.mpr (Real.log_nonneg (by norm_num))))
    have hl : Real.log 2 ≠ 0 := (Real.log_pos (by norm_num)).ne'
    rw [show d * scale * (d * scale) = d * d * (scale * scale) by ring, hs]
    unfold unit; field_simp; ring

/-! ### The iteration -/

/-- The potentials of a problem: the source points', the target points'. -/
abbrev Pots : Type := (Fin 48 → EReal) × (Fin 48 → EReal)

/-- One iteration of the kernel with costs `C i j` from source `i` to target `j`. -/
def stepK (C : Fin 48 → Fin 48 → EReal) (p : Pots) : Pots :=
  (fun i => fromSources (fun j => fromSources p.1 fun i => C i j) fun j => C i j, fun j => fromSources p.1 fun i => C i j)

/-- One iteration of the reference. -/
def stepR (C : Fin 48 → Fin 48 → EReal) (p : Pots) : Pots :=
  (fun i => plain (fun j => plain p.1 fun i => C i j) fun j => C i j, fun j => plain p.1 fun i => C i j)

/-- The zero potentials. -/
def start : Pots := (fun _ => 0, fun _ => 0)

/-- The costs between the points `x` and the points `y`. -/
def tableK (x y : Fin 48 → EReal) (i j : Fin 48) : EReal := costK (x i) (y j)
def tableR (x y : Fin 48 → EReal) (i j : Fin 48) : EReal := costR (x i) (y j)

/-- After any number of iterations the reference's potentials are `unit` times the kernel's, and the kernel's source
    potentials are such that the next iteration is well behaved. -/
theorem iterate_eq (x y : Fin 48 → EReal) (n : ℕ) :
    (stepR (tableR x y))^[n] start
        = (fun i => (unit : EReal) * ((stepK (tableK x y))^[n] start).1 i,
            fun j => (unit : EReal) * ((stepK (tableK x y))^[n] start).2 j)
      ∧ (∀ i, ((stepK (tableK x y))^[n] start).1 i ≠ ⊥)
      ∧ ∀ i, ((stepK (tableK x y))^[n] start).1 i = ⊤ → ∀ j, tableK x y i j = ⊤ := by
  induction n with
  | zero =>
    refine ⟨?_, fun i => ?_, fun i h => ?_⟩
    · simp only [Function.iterate_zero, id_eq, start, mul_zero]
    · exact EReal.zero_ne_bot
    · exact absurd h EReal.zero_ne_top
  | succ n ih =>
    rw [Function.iterate_succ_apply', Function.iterate_succ_apply']
    generalize (stepK (tableK x y))^[n] start = p at ih ⊢
    obtain ⟨hR, hb, hT⟩ := ih
    have hG : ∀ j, Good p.1 fun i => tableK x y i j := fun j =>
      ⟨hb, fun i => costK_nonneg _ _, fun i h => hT i h j⟩
    have hF : ∀ i, Good (fun j => fromSources p.1 fun i => tableK x y i j) fun j => tableK x y i j := fun i =>
      ⟨fun j => fromSources_ne_bot (hG j), fun j => costK_nonneg _ _, fun j h => fromSources_eq_top (hG j) h i⟩
    have hg : ∀ j, plain (fun i => (unit : EReal) * p.1 i) (fun i => tableR x y i j)
        = (unit : EReal) * fromSources p.1 fun i => tableK x y i j := fun j => by
      rw [← plain_eq (hG j)]
      unfold tableR tableK
      simp only [costR_eq]
    refine ⟨?_, fun i => fromSources_ne_bot (hF i), fun i h => fromSources_eq_top (hF i) h⟩
    rw [hR]
    unfold stepR stepK
    refine Prod.ext (funext fun i => ?_) (funext hg)
    show plain (fun j => plain (fun i => (unit : EReal) * p.1 i) fun i => tableR x y i j) (fun j => tableR x y i j) = _
    simp only [hg]
    show _ = (unit : EReal) * fromSources (fun j => fromSources p.1 fun i => tableK x y i j) fun j => tableK x y i j
    rw [← plain_eq (hF i)]
    unfold tableR tableK
    simp only [costR_eq]

/-! ### The transport value -/

/-- The kernel's transport value from its potentials. -/
def valueK (p : Pots) : EReal := (∑ i, p.1 i + ∑ j, p.2 j) * ((1 / 20000 * Real.log 2 : ℝ) : EReal)

/-- The reference's. -/
def valueR (p : Pots) : EReal := ∑ i, ((1 / 50 : ℝ) : EReal) * p.1 i + ∑ j, ((1 / 50 : ℝ) : EReal) * p.2 j

/-- A nonnegative real factor moves out of a sum. -/
theorem coe_mul_sum {ι : Type} (s : Finset ι) (g : ι → EReal) {r : ℝ} (hr : 0 ≤ r) :
    ∑ i ∈ s, (r : EReal) * g i = (r : EReal) * ∑ i ∈ s, g i := by
  induction s using Finset.cons_induction with
  | empty => simp
  | cons a s ha ih =>
    rw [Finset.sum_cons, Finset.sum_cons, ih,
      EReal.left_distrib_of_nonneg_of_ne_top (by exact_mod_cast hr) (EReal.coe_ne_top r)]

/-- The ten iterations give both the same transport value. -/
theorem value_eq (x y : Fin 48 → EReal) :
    valueR ((stepR (tableR x y))^[10] start) = valueK ((stepK (tableK x y))^[10] start) := by
  rw [(iterate_eq x y 10).1]
  generalize (stepK (tableK x y))^[10] start = p
  have hh : (0 : ℝ) ≤ 1 / 50 := by norm_num
  unfold valueR valueK
  dsimp only
  rw [coe_mul_sum _ _ hh, coe_mul_sum _ _ hh, coe_mul_sum _ _ unit_pos.le, coe_mul_sum _ _ unit_pos.le,
    ← EReal.left_distrib_of_nonneg_of_ne_top (by exact_mod_cast hh) (EReal.coe_ne_top _),
    ← EReal.left_distrib_of_nonneg_of_ne_top (by exact_mod_cast unit_pos.le) (EReal.coe_ne_top _), ← mul_assoc,
    ← EReal.coe_mul, mul_comm]
  congr 2
  unfold unit; ring

end Cert.Sinkhorn

end
-- ==== Proof.HalfLane.lean ====
/- The kernel's half iteration read at one target point and one lane, over the extended reals. -/
module

public import proofs.«01_k».proof.Proof.Half
public import proofs.«01_k».proof.Proof.Chain
public import Idealize.ShloMosaic.PureOps.Ideal.Laws
public import Idealize.ShloMosaic.Lib.ValueIdx
public import Idealize.ShloMosaic.Lib.ValueLayout

@[expose] public section

noncomputable section

namespace Cert.Sinkhorn

open Idealize.ShloMosaic Idealize.ShloMosaic.ValueIdx

theorem rowAt_apply (f : FVec Ideal Mat .f32) (i : ℕ) (hi : i < 48) (j : Fin 48) (l : Fin 128) :
    rowAt f i hi (ix2 j l) = f (ix2 (⟨i, hi⟩ : Fin 48) l) := by
  unfold rowAt
  rw [broadcastTo_1b_ab_apply, shapeCast_a_1a_apply, shapeCast_1a_a_apply]
  exact slice2_axis0_apply i f _ _ _ _ rfl

theorem slabAt_apply (C : FVec Ideal Cube .f32) (i : ℕ) (hi : i < 48) (j : Fin 48) (l : Fin 128) :
    slabAt C i hi (ix2 j l) = C (ix3 (⟨i, hi⟩ : Fin 48) j l) := by
  unfold slabAt
  rw [shapeCast_1ab_ab_apply]
  exact extractStridedSlice_apply _ _ _ _ _ fun a => by
    match a with
    | ⟨0, _⟩ => rfl
    | ⟨1, _⟩ => exact (Nat.zero_add _).symm
    | ⟨2, _⟩ => exact (Nat.zero_add _).symm

/-- The running maximum is the maximum over the source points gone through. -/
theorem runMax_apply (f : FVec Ideal Mat .f32) (C : FVec Ideal Cube .f32) (j : Fin 48) (l : Fin 128) (n : ℕ) (h : n < 48) :
    runMax f C n h (ix2 j l) = Finset.univ.sup fun k : Fin (n + 1) =>
      f (ix2 (Fin.castLE h k) l) - C (ix3 (Fin.castLE h k) j l) := by
  induction n with
  | zero =>
    rw [show (Finset.univ : Finset (Fin (0 + 1))) = {0} from rfl, Finset.sup_singleton]
    show rowAt f 0 h (ix2 j l) - slabAt C 0 h (ix2 j l) = _
    rw [rowAt_apply, slabAt_apply]; rfl
  | succ n ih =>
    rw [Fin.univ_castSuccEmb, Finset.sup_cons, Finset.sup_map]
    show max (runMax f C n _ (ix2 j l)) (rowAt f (n + 1) h (ix2 j l) - slabAt C (n + 1) h (ix2 j l)) = _
    rw [ih, rowAt_apply, slabAt_apply, max_comm]; rfl

/-- The running sum is the sum over the source points gone through. -/
theorem runSum_apply (f : FVec Ideal Mat .f32) (C : FVec Ideal Cube .f32) (m : FVec Ideal Mat .f32) (j : Fin 48)
    (l : Fin 128) (n : ℕ) (h : n < 48) :
    runSum f C m n h (ix2 j l) = ∑ k : Fin (n + 1),
      Ideal.exp2 (f (ix2 (Fin.castLE h k) l) - (C (ix3 (Fin.castLE h k) j l) + m (ix2 j l))) := by
  induction n with
  | zero =>
    rw [Fin.sum_univ_one]
    show Ideal.exp2 (rowAt f 0 h (ix2 j l) - (slabAt C 0 h (ix2 j l) + m (ix2 j l))) = _
    rw [rowAt_apply, slabAt_apply]; rfl
  | succ n ih =>
    rw [Fin.sum_univ_castSucc]
    show runSum f C m n _ (ix2 j l)
      + Ideal.exp2 (rowAt f (n + 1) h (ix2 j l) - (slabAt C (n + 1) h (ix2 j l) + m (ix2 j l))) = _
    rw [ih, rowAt_apply, slabAt_apply]; rfl

/-- The two constants of a half iteration. -/
abbrev log2e : Ideal .f32 := (((Real.log 2)⁻¹ : ℝ) : EReal)
abbrev la2 : Ideal .f32 := ((Real.log (1 / 50) * (Real.log 2)⁻¹ : ℝ) : EReal)

theorem half_apply (f : FVec Ideal Mat .f32) (C : FVec Ideal Cube .f32) (j : Fin 48) (l : Fin 128) :
    half log2e la2 f C (ix2 j l) = fromSources (fun i => f (ix2 i l)) fun i => C (ix3 i j l) := by
  show Ideal.ofBits .f32 0x00000000#32 - ((runMax f C 47 _ (ix2 j l)
    + Ideal.log (runSum f C (runMax f C 47 _) 47 _ (ix2 j l)) * log2e) + la2) = _
  rw [Ideal.ofBits_zero_f32, runSum_apply, runMax_apply]
  rfl

/-- The potentials of one lane. -/
def lane (f g : FVec Ideal Mat .f32) (l : Fin 128) : Pots := (fun i => f (ix2 i l), fun j => g (ix2 j l))

/-- One iteration of one problem, lane by lane: its costs `C`, and `C'` the same with the two points exchanged. -/
theorem half_half_lane (C C' : FVec Ideal Cube .f32) (T : Fin 48 → Fin 48 → EReal) (l : Fin 128)
    (hC : ∀ i j, C (ix3 i j l) = T i j) (hC' : ∀ i j, C' (ix3 j i l) = T i j) (f g : FVec Ideal Mat .f32) :
    lane (half log2e la2 (half log2e la2 f C) C') (half log2e la2 f C) l = stepK T (lane f g l) := by
  unfold lane stepK
  simp only [half_apply, hC, hC']

/-- The three problems' potentials of one lane. -/
def lanes (p : Six Ideal) (l : Fin 128) : Pots × Pots × Pots :=
  (lane p.1 p.2.2.2.1 l, lane p.2.1 p.2.2.2.2.1 l, lane p.2.2.1 p.2.2.2.2.2 l)

/-- Any number of iterations of the three problems, lane by lane. -/
theorem trip_lanes (C C' D E : FVec Ideal Cube .f32) (l : Fin 128) (T U V : Fin 48 → Fin 48 → EReal)
    (hC : ∀ i j, C (ix3 i j l) = T i j) (hC' : ∀ i j, C' (ix3 j i l) = T i j)
    (hD : ∀ i j, D (ix3 i j l) = U i j) (hD' : ∀ i j, U j i = U i j)
    (hE : ∀ i j, E (ix3 i j l) = V i j) (hE' : ∀ i j, V j i = V i j) (p : Six Ideal) (n : ℕ) :
    lanes ((trip log2e la2 C C' D E)^[n] p) l
      = ((stepK T)^[n] (lanes p l).1, (stepK U)^[n] (lanes p l).2.1, (stepK V)^[n] (lanes p l).2.2) := by
  induction n with
  | zero => rfl
  | succ n ih =>
    simp only [Function.iterate_succ_apply']
    generalize (trip log2e la2 C C' D E)^[n] p = q at ih ⊢
    have h := fun (A : FVec Ideal Cube .f32) (W : Fin 48 → Fin 48 → EReal) (hA : ∀ i j, A (ix3 i j l) = W i j)
      (hW : ∀ i j, W j i = W i j) => half_half_lane A A W l hA fun i j => (hA j i).trans (hW i j)
    have e0 := half_half_lane C C' T l hC hC' q.1 q.2.2.2.1
    have e1 := h D U hD hD' q.2.1 q.2.2.2.2.1
    have e2 := h E V hE hE' q.2.2.1 q.2.2.2.2.2
    have i0 := congrArg Prod.fst ih
    have i1 := congrArg (fun z => z.2.1) ih
    have i2 := congrArg (fun z => z.2.2) ih
    dsimp only [lanes] at i0 i1 i2
    rw [i0] at e0; rw [i1] at e1; rw [i2] at e2
    exact Prod.ext e0 (Prod.ext e1 e2)

end Cert.Sinkhorn

end
-- ==== Proof.BlockValue.lean ====
/- What the idealised kernel's body leaves in one block of its result, read at each lane: the Sinkhorn divergence of the
   lane's two point sets, the sum of their squared differences, and the squared difference of the two lengths. -/
module

public import proofs.«01_k».proof.Proof.HalfLane
public import proofs.«01_k».proof.Proof.TripIdeal
public import Idealize.ShloMosaic.Lib.Pipeline.Value

@[expose] public section

set_option maxRecDepth 16384

noncomputable section

namespace Cert.Sinkhorn

open Idealize.ShloMosaic Idealize.ShloMosaic.ValueIdx

/-- One half, as both programs write it. -/
abbrev halfC : EReal := Ideal.ofBits .f32 0x3F000000#32

/-- The kernel's potentials of the problem between the points `x` and `y` after the ten iterations. -/
def endK (x y : Fin 48 → EReal) : Pots := (stepK (tableK x y))^[10] start

/-- The kernel's divergence between the points `x` and `y`. -/
def divK (x y : Fin 48 → EReal) : EReal := valueK (endK x y) - halfC * valueK (endK x x) - halfC * valueK (endK y y)

/-- The square of a difference. -/
def sq (a b : EReal) : EReal := (a - b) * (a - b)

end Cert.Sinkhorn

namespace Cert.KernelIdeal.Gen

open Idealize.ShloMosaic Idealize.ShloMosaic.ValueIdx Idealize.SL.Sem Cert.Sinkhorn

/-! ### Costs -/

/-- A block of rows `a` against a block of rows `b`: at `(i, j, l)` row `i` of the one and row `j` of the other. -/
theorem rows_against (a b : FVec Ideal S48x128 .f32) (i j : Fin 48) (l : Fin 128) :
    subf (broadcastTo S48x48x128 (shapeCast S48x1x128 a shapeCasts_S48x128_S48x1x128) broadcasts_S48x1x128_S48x48x128)
        (broadcastTo S48x48x128 (shapeCast S1x48x128 b shapeCasts_S48x128_S1x48x128) broadcasts_S1x48x128_S48x48x128)
        (ix3 i j l)
      = a (ix2 i l) - b (ix2 j l) := by
  rw [subf_apply]
  congr 1
  · rw [broadcastTo_apply _ _ _ (ix3 i (0 : Fin 1) l) fun c => by
      match c with
      | ⟨0, _⟩ => rfl
      | ⟨1, _⟩ => rfl
      | ⟨2, _⟩ => rfl]
    refine shapeCast_apply _ _ _ _ ?_
    rw [Shape.rowMajor_val_three, Shape.rowMajor_val_two]
    show i.val * 128 + l.val = (i.val * 1 + 0) * 128 + l.val
    omega
  · rw [broadcastTo_apply _ _ _ (ix3 (0 : Fin 1) j l) fun c => by
      match c with
      | ⟨0, _⟩ => rfl
      | ⟨1, _⟩ => rfl
      | ⟨2, _⟩ => rfl]
    exact shapeCast_ab_1ab_apply _ _ _ _ _

theorem pay217_apply (v : Vec Ideal S48x128 .f32) (i : Fin 48) (l : Fin 128) :
    k0_pay217 v (ix2 i l) = v (ix2 i l) * (scale : EReal) := by
  unfold k0_pay217 k0_pay216; rw [shapeCast_self]; rfl

theorem pay218_apply (v : Vec Ideal S48x128 .f32) (i : Fin 48) (l : Fin 128) :
    k0_pay218 v (ix2 i l) = v (ix2 i l) * (scale : EReal) := by
  unfold k0_pay218 k0_pay215; rw [shapeCast_self]; rfl

theorem pay219_apply (v0 v2 : Vec Ideal S48x128 .f32) (i j : Fin 48) (l : Fin 128) :
    k0_pay219 v0 v2 (ix3 i j l) = costK (v2 (ix2 i l)) (v0 (ix2 j l)) := by
  unfold k0_pay219
  rw [mulf_apply, rows_against, pay217_apply, pay218_apply]; rfl

theorem pay220_apply (v0 v2 : Vec Ideal S48x128 .f32) (i j : Fin 48) (l : Fin 128) :
    k0_pay220 v0 v2 (ix3 j i l) = costK (v2 (ix2 i l)) (v0 (ix2 j l)) := by
  unfold k0_pay220
  rw [mulf_apply, rows_against, pay217_apply, pay218_apply, costK_comm]; rfl

theorem pay221_apply (v2 : Vec Ideal S48x128 .f32) (i j : Fin 48) (l : Fin 128) :
    k0_pay221 v2 (ix3 i j l) = costK (v2 (ix2 i l)) (v2 (ix2 j l)) := by
  unfold k0_pay221
  rw [mulf_apply, rows_against, pay217_apply, pay217_apply]; rfl

theorem pay222_apply (v0 : Vec Ideal S48x128 .f32) (i j : Fin 48) (l : Fin 128) :
    k0_pay222 v0 (ix3 i j l) = costK (v0 (ix2 i l)) (v0 (ix2 j l)) := by
  unfold k0_pay222
  rw [mulf_apply, rows_against, pay218_apply, pay218_apply]; rfl

/-! ### The loop -/

/-- The loop is ten iterations. -/
theorem loopOf_eq (v0 v2 : Vec Ideal S48x128 .f32) :
    loopOf v0 v2 = (trip log2e la2 (k0_pay219 v0 v2) (k0_pay220 v0 v2) (k0_pay221 v2) (k0_pay222 v0))^[10]
      (k0_pay223, k0_pay223, k0_pay223, k0_pay223, k0_pay223, k0_pay223) := by
  unfold loopOf
  rw [show tripOf v0 v2 = trip log2e la2 (k0_pay219 v0 v2) (k0_pay220 v0 v2) (k0_pay221 v2) (k0_pay222 v0) from rfl]
  generalize trip log2e la2 (k0_pay219 v0 v2) (k0_pay220 v0 v2) (k0_pay221 v2) (k0_pay222 v0) = g
  rw [Scf.fold_eq]
  have h : ∀ (n : ℕ) (p : Six Ideal), (List.finRange n).foldl (fun acc _ => g acc) p = g^[n] p := by
    intro n
    induction n with
    | zero => intro p; rfl
    | succ n ih => intro p; rw [List.finRange_succ, List.foldl_cons, List.foldl_map, ih, Function.iterate_succ_apply]
  exact h 10 _

/-- The potentials of a lane after the loop. -/
theorem loop_lanes (v0 v2 : Vec Ideal S48x128 .f32) (l : Fin 128) :
    lanes (loopOf v0 v2) l = (endK (fun i => v2 (ix2 i l)) fun j => v0 (ix2 j l),
      endK (fun i => v2 (ix2 i l)) (fun j => v2 (ix2 j l)), endK (fun i => v0 (ix2 i l)) fun j => v0 (ix2 j l)) := by
  rw [loopOf_eq]
  rw [trip_lanes _ _ _ _ l _ _ _ (pay219_apply v0 v2 · · l) (pay220_apply v0 v2 · · l) (pay221_apply v2 · · l)
    (fun _ _ => costK_comm _ _) (pay222_apply v0 · · l) fun _ _ => costK_comm _ _]
  have h0 : lane (k0_pay223 (F := Ideal)) k0_pay223 l = start := by
    unfold lane start k0_pay223
    refine Prod.ext (funext fun i => ?_) (funext fun i => ?_) <;> exact Ideal.ofBits_zero_f32
  unfold lanes endK
  dsimp only
  rw [h0]; rfl

/-! ### The block -/

/-- A sum over the 48 rows. -/
theorem sum_rows (v : FVec Ideal S48x128 .f32) (l : Fin 128) :
    multiReduction .add [0] S128 v 0x00000000#32 reduces_S48x128_S128 (.inl rfl) rfl (ix1 l) = ∑ i : Fin 48, v (ix2 i l) := by
  refine (Ideal.multiReduction_add_single v _ _ _ _ _).trans ?_
  refine Finset.sum_congr rfl fun k _ => congrArg v (funext fun a => Fin.ext ?_)
  match a with
  | ⟨0, _⟩ => rfl
  | ⟨1, _⟩ => rfl

/-- What the body stores, from the 48 inner rows of its two point blocks and its two length blocks. -/
def stored (v0 v2 : Vec Ideal S48x128 .f32) (x2 x3 : Vec Ideal S1x128 .f32) : Vec Ideal S1x3x128 .f32 :=
  k0_pay1 (k0_pay215 v0) (k0_pay216 v2) (loopOf v0 v2).2.2.1 (loopOf v0 v2).2.2.2.2.2
    (k0_pay225 (loopOf v0 v2).1 (loopOf v0 v2).2.2.2.1) (k0_pay226 (loopOf v0 v2).2.1 (loopOf v0 v2).2.2.2.2.1)
    (Named.named κ "w" 0x38115D0E#32) x2 x3

/-- The three rows of a stack of three, each of one row. -/
theorem stack_apply (a b d : FVec Ideal S128 .f32) (r : Fin 3) (l : Fin 128) :
    shapeCast S1x3x128 (concatenate S3x128 0 [⟨S1x128, shapeCast S1x128 a shapeCasts_S128_S1x128⟩,
        ⟨S1x128, shapeCast S1x128 b shapeCasts_S128_S1x128⟩, ⟨S1x128, shapeCast S1x128 d shapeCasts_S128_S1x128⟩]
        concatenates_S1x128_S1x128_S1x128_S3x128_d0) shapeCasts_S3x128_S1x3x128 (ix3 (0 : Fin 1) r l)
      = (![a, b, d] r) (ix1 l) := by
  rw [shapeCast_ab_1ab_apply]
  refine (concatenate_ofFn_unit_apply 0 (fun n : Fin 3 => shapeCast S1x128 (![a, b, d] n) shapeCasts_S128_S1x128)
    concatenates_S1x128_S1x128_S1x128_S3x128_d0 rfl rfl (ix2 r l) r rfl (ix2 (0 : Fin 1) l) fun c hc => ?_).trans
    (shapeCast_a_1a_apply _ _ _ _)
  match c with
  | ⟨0, _⟩ => exact absurd rfl hc
  | ⟨1, _⟩ => rfl

theorem stored_apply (v0 v2 : Vec Ideal S48x128 .f32) (x2 x3 : Vec Ideal S1x128 .f32) (r : Fin 3) (l : Fin 128) :
    stored v0 v2 x2 x3 (ix3 (0 : Fin 1) r l)
      = ![divK (fun i => v2 (ix2 i l)) fun j => v0 (ix2 j l), ∑ i, sq (v0 (ix2 i l)) (v2 (ix2 i l)),
          sq (x2 (ix2 (0 : Fin 1) l)) (x3 (ix2 (0 : Fin 1) l))] r := by
  have hL := loop_lanes v0 v2 l
  unfold stored
  generalize loopOf v0 v2 = p at hL ⊢
  have e0 : lane p.1 p.2.2.2.1 l = endK (fun i => v2 (ix2 i l)) fun j => v0 (ix2 j l) := congrArg Prod.fst hL
  have e1 : lane p.2.1 p.2.2.2.2.1 l = endK (fun i => v2 (ix2 i l)) fun j => v2 (ix2 j l) := congrArg (fun z => z.2.1) hL
  have e2 : lane p.2.2.1 p.2.2.2.2.2 l = endK (fun i => v0 (ix2 i l)) fun j => v0 (ix2 j l) :=
    congrArg (fun z => z.2.2) hL
  unfold k0_pay1; dsimp only
  rw [stack_apply]
  fin_cases r
  · show (k0_pay225 p.1 p.2.2.2.1 (ix1 l) - halfC * (k0_pay226 p.2.1 p.2.2.2.2.1 (ix1 l) * _))
      - halfC * ((multiReduction .add [0] S128 p.2.2.1 0x00000000#32 reduces_S48x128_S128 (.inl rfl) rfl (ix1 l)
        + multiReduction .add [0] S128 p.2.2.2.2.2 0x00000000#32 reduces_S48x128_S128 (.inl rfl) rfl (ix1 l)) * _) = divK _ _
    unfold k0_pay225 k0_pay226; dsimp only
    rw [mulf_apply, addf_apply, addf_apply, sum_rows, sum_rows, sum_rows, sum_rows, sum_rows, sum_rows]
    unfold divK
    rw [← e0, ← e1, ← e2]; rfl
  · show multiReduction .add [0] S128 (mulf (subf (k0_pay215 v0) (k0_pay216 v2)) (subf (k0_pay215 v0) (k0_pay216 v2)))
      0x00000000#32 reduces_S48x128_S128 (.inl rfl) rfl (ix1 l) = ∑ i, sq (v0 (ix2 i l)) (v2 (ix2 i l))
    rw [sum_rows]
    unfold k0_pay215 k0_pay216; dsimp only
    rw [shapeCast_self, shapeCast_self]; rfl
  · show (shapeCast S128 x2 shapeCasts_S1x128_S128 (ix1 l) - shapeCast S128 x3 shapeCasts_S1x128_S128 (ix1 l))
      * (shapeCast S128 x2 shapeCasts_S1x128_S128 (ix1 l) - shapeCast S128 x3 shapeCasts_S1x128_S128 (ix1 l)) = sq (x2 (ix2 (0 : Fin 1) l)) (x3 (ix2 (0 : Fin 1) l))
    rw [shapeCast_1a_a_apply, shapeCast_1a_a_apply]; rfl

end Cert.KernelIdeal.Gen

end
-- ==== Proof.KernelArray.lean ====
/- The idealised kernel's result array: what each grid point stores, in terms of the arguments, and that the blocks fill
   the array, one row of three numbers for each of the 4096 problems. -/
module

public import proofs.«01_k».proof.Proof.RunIdeal
public import proofs.«01_k».proof.Proof.BlockValue
public import Idealize.ShloMosaic.Lib.Pipeline.ValueKit.Tiles

@[expose] public section

set_option maxRecDepth 16384

noncomputable section

namespace Cert.Sinkhorn

open Idealize.ShloMosaic Idealize.ShloMosaic.ValueIdx

/-- A time of the 48 inner ones, among the 50. -/
abbrev inner (i : Fin 48) : Fin 50 := ⟨i.val + 1, by omega⟩

/-- The problem of lane `l` of block `t`. -/
abbrev row (t : Fin 32) (l : Fin 128) : Fin 4096 := ⟨t.val * 128 + l.val, by omega⟩

/-- The three numbers of problem `b`: the divergence, the sum of squared differences of the inner times, the squared
    difference of the lengths; `p` and `q` the predicted and the true times, `u` and `w` the lengths. -/
def three (p q : Fin 4096 → Fin 50 → EReal) (u w : Fin 4096 → EReal) (b : Fin 4096) : Fin 3 → EReal :=
  ![divK (fun i => q b (inner i)) fun j => p b (inner j), ∑ i, sq (p b (inner i)) (q b (inner i)), sq (u b) (w b)]

/-- A table by rows and columns. -/
abbrev rows2 (a : FVec Ideal ⟨2, ![4096, 50]⟩ .f32) : Fin 4096 → Fin 50 → EReal := fun b k => a (ix2 b k)

/-- A list by its places. -/
abbrev rows1 (a : FVec Ideal ⟨1, ![4096]⟩ .f32) : Fin 4096 → EReal := fun b => a (ix1 b)

end Cert.Sinkhorn

namespace Cert.KernelIdeal.Gen

open Idealize.ShloMosaic Idealize.ShloMosaic.TcCoe Idealize.ShloMosaic.Tactic Idealize.ShloMosaic.ValueIdx
open Idealize.SL.Sem Cert.Sinkhorn
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-- The 48 inner rows of a block. -/
def innerRows (x : Vec Ideal S50x128 .f32) : Vec Ideal S48x128 .f32 :=
  View.ld x (Rect.unit (s := S50x128) ![1, 0] S48x128.size inb_S50x128_S48x128_1_0)

theorem innerRows_apply (x : Vec Ideal S50x128 .f32) (i : Fin 48) (l : Fin 128) :
    innerRows x (ix2 i l) = x (ix2 (inner i) l) :=
  View.ld_unit_apply_of x _ _ _ _ (ix2 (inner i) l) fun a => by
    match a with
    | ⟨0, _⟩ => show i.val + 1 = 1 + i.val; omega
    | ⟨1, _⟩ => show l.val = 0 + l.val; omega

/-- The body leaves `stored` in the result's block. -/
theorem bodyOut_eq (c : Dev nD) (i : grid0.Coords)
    (arg1 : Memref sig .tc .vmem S50x128 .f32) (harg1 : arg1.IsWhole)
    (arg2 : Memref sig .tc .vmem S50x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x3x128 .f32) (harg5 : arg5.IsWhole)
    (x0 x1 : Vec Ideal S50x128 .f32) (x2 x3 : Vec Ideal S1x128 .f32) :
    bodyOut c i arg1 harg1 arg2 harg2 arg3 harg3 arg4 harg4 arg5 harg5 x0 x1 x2 x3
      = stored (innerRows x0) (innerRows x1) x2 x3 := by
  unfold bodyOut
  rw [View.read_writes_eq_canon _ _ _ (bodyRun_cover c i arg1 harg1 arg2 harg2 arg3 harg3 arg4 harg4 arg5 harg5 x0 x1 x2 x3)]
  unfold bodyRun
  dsimp only
  rw [View.canon_unit_zero (S := S1x3x128) hz3]
  simp only [View.readAt_eq_ld, harg1.read_unread, harg2.read_unread, harg3.read_unread, harg4.read_unread,
    View.ld_unit_zero (S := S1x128) hz2]
  rfl

variable (m : (ℓ : Loc nD τ sig) → Buf (Elt Ideal) ℓ)

/-! ### The blocks read -/

theorem index0 : ∀ t : Fin cfg0.N, win0_0.index t (0 : Fin 2) = 0 ∧ win0_0.index t (1 : Fin 2) = t.val := by decide +kernel
theorem index1 : ∀ t : Fin cfg0.N, win0_1.index t (0 : Fin 2) = 0 ∧ win0_1.index t (1 : Fin 2) = t.val := by decide +kernel
theorem index2 : ∀ t : Fin cfg0.N, win0_2.index t (0 : Fin 2) = 0 ∧ win0_2.index t (1 : Fin 2) = t.val := by decide +kernel
theorem index3 : ∀ t : Fin cfg0.N, win0_3.index t (0 : Fin 2) = 0 ∧ win0_3.index t (1 : Fin 2) = t.val := by decide +kernel
theorem index4 : ∀ t : Fin cfg0.N, win0_4.index t (0 : Fin 3) = t.val ∧ win0_4.index t (1 : Fin 3) = 0
    ∧ win0_4.index t (2 : Fin 3) = 0 := by decide +kernel

theorem V_v0 (c : Dev nD) : V m c main_v0
    = transpose S50x4096 [1, 0] (m ((c : Thread nD τ).loc main_arg0)) transposes_S4096x50_S50x4096_1_0 := by
  unfold V V0; simp only [List.flatten_cons, List.flatten_nil, List.append_nil]; after_results

theorem V_v1 (c : Dev nD) : V m c main_v1
    = transpose S50x4096 [1, 0] (m ((c : Thread nD τ).loc main_arg1)) transposes_S4096x50_S50x4096_1_0 := by
  unfold V V0; simp only [List.flatten_cons, List.flatten_nil, List.append_nil]; after_results

theorem V_v2 (c : Dev nD) : V m c main_v2
    = shapeCast S1x4096 (m ((c : Thread nD τ).loc main_arg2)) shapeCasts_S4096_S1x4096 := by
  unfold V V0; simp only [List.flatten_cons, List.flatten_nil, List.append_nil]; after_results; rfl

theorem V_v3 (c : Dev nD) : V m c main_v3
    = shapeCast S1x4096 (m ((c : Thread nD τ).loc main_arg3)) shapeCasts_S4096_S1x4096 := by
  unfold V V0; simp only [List.flatten_cons, List.flatten_nil, List.append_nil]; after_results; rfl

theorem block0 (c : Dev nD) (t : Fin 32) (k : Fin 50) (l : Fin 128) :
    iblk m c 0 t (ix2 k l) = rows2 (m ((c : Thread nD τ).loc main_arg0)) (row t l) k := by
  have e := index0 t
  have h : ((cfg0.win 0).blk t).view.emb (ix2 k l) = ix2 k (row t l) := by
    funext a; apply Fin.ext
    match a with
    | ⟨0, _⟩ => show win0_0.index t (0 : Fin 2) * 50 + 1 * k.val = k.val; rw [e.1]; omega
    | ⟨1, _⟩ => show win0_0.index t (1 : Fin 2) * 128 + 1 * l.val = t.val * 128 + l.val; rw [e.2]; omega
  exact ((congrFun (V_v0 m c) _).trans (congrArg _ h)).trans (transpose_ix2_apply _ _ _ _)

theorem block1 (c : Dev nD) (t : Fin 32) (k : Fin 50) (l : Fin 128) :
    iblk m c 1 t (ix2 k l) = rows2 (m ((c : Thread nD τ).loc main_arg1)) (row t l) k := by
  have e := index1 t
  have h : ((cfg0.win 1).blk t).view.emb (ix2 k l) = ix2 k (row t l) := by
    funext a; apply Fin.ext
    match a with
    | ⟨0, _⟩ => show win0_1.index t (0 : Fin 2) * 50 + 1 * k.val = k.val; rw [e.1]; omega
    | ⟨1, _⟩ => show win0_1.index t (1 : Fin 2) * 128 + 1 * l.val = t.val * 128 + l.val; rw [e.2]; omega
  exact ((congrFun (V_v1 m c) _).trans (congrArg _ h)).trans (transpose_ix2_apply _ _ _ _)

theorem block2 (c : Dev nD) (t : Fin 32) (l : Fin 128) :
    iblk m c 2 t (ix2 (0 : Fin 1) l) = rows1 (m ((c : Thread nD τ).loc main_arg2)) (row t l) := by
  have e := index2 t
  have h : ((cfg0.win 2).blk t).view.emb (ix2 (0 : Fin 1) l) = ix2 (0 : Fin 1) (row t l) := by
    funext a; apply Fin.ext
    match a with
    | ⟨0, _⟩ => show win0_2.index t (0 : Fin 2) * 1 + 1 * 0 = 0; rw [e.1]
    | ⟨1, _⟩ => show win0_2.index t (1 : Fin 2) * 128 + 1 * l.val = t.val * 128 + l.val; rw [e.2]; omega
  exact ((congrFun (V_v2 m c) _).trans (congrArg _ h)).trans (shapeCast_a_1a_apply _ _ _ _)

theorem block3 (c : Dev nD) (t : Fin 32) (l : Fin 128) :
    iblk m c 3 t (ix2 (0 : Fin 1) l) = rows1 (m ((c : Thread nD τ).loc main_arg3)) (row t l) := by
  have e := index3 t
  have h : ((cfg0.win 3).blk t).view.emb (ix2 (0 : Fin 1) l) = ix2 (0 : Fin 1) (row t l) := by
    funext a; apply Fin.ext
    match a with
    | ⟨0, _⟩ => show win0_3.index t (0 : Fin 2) * 1 + 1 * 0 = 0; rw [e.1]
    | ⟨1, _⟩ => show win0_3.index t (1 : Fin 2) * 128 + 1 * l.val = t.val * 128 + l.val; rw [e.2]; omega
  exact ((congrFun (V_v3 m c) _).trans (congrArg _ h)).trans (shapeCast_a_1a_apply _ _ _ _)

/-! ### The array written -/

/-- The three numbers of problem `b`, from the arguments. -/
abbrev threeOf (c : Dev nD) (b : Fin 4096) : Fin 3 → EReal :=
  three (rows2 (m ((c : Thread nD τ).loc main_arg0))) (rows2 (m ((c : Thread nD τ).loc main_arg1)))
    (rows1 (m ((c : Thread nD τ).loc main_arg2))) (rows1 (m ((c : Thread nD τ).loc main_arg3))) b

theorem blockOut_apply (c : Dev nD) (t : Fin 32) (r : Fin 3) (l : Fin 128) :
    blockOut m c t (ix3 (0 : Fin 1) r l) = threeOf m c (row t l) r := by
  unfold blockOut
  rw [bodyOut_eq, stored_apply]
  simp only [innerRows_apply]
  rw [block2, block3]
  simp only [block0, block1]
  rfl

/-- The result array: at `(t, r, l)` number `r` of the problem of lane `l` of block `t`. -/
def written (c : Dev nD) : Vec Ideal S32x3x128 .f32 := fun i => threeOf m c (row (i 0) (i 2)) (i 1)

theorem flushed_eq (c : Dev nD) (t : Fin cfg0.N) :
    (dats m 0 c).flushed 4 t = ((cfg0.win 4).blk t).view.read (Elt Ideal) (written m c) := by
  show (cfg0.win 4).cut (grid0.coords t) ((dats m 0 c).after 4 t) = _
  rw [after_out]
  have key : ∀ j : S1x3x128.Idx, blockOut m c t j = written m c (((cfg0.win 4).blk t).view.emb j) := by
    intro j
    have ej : j = ix3 (0 : Fin 1) (j 1) (j 2) := funext fun a => by
      match a with
      | ⟨0, _⟩ => exact Subsingleton.elim (α := Fin 1) _ _
      | ⟨1, _⟩ => rfl
      | ⟨2, _⟩ => rfl
    rw [ej]
    refine (blockOut_apply m c t (j 1) (j 2)).trans ?_
    obtain ⟨e0, e1, e2⟩ := index4 t
    have h0 : ((cfg0.win 4).blk t).view.emb (ix3 (0 : Fin 1) (j 1) (j 2)) = ix3 (t : Fin 32) (j 1) (j 2) := by
      funext a; apply Fin.ext
      match a with
      | ⟨0, _⟩ => show win0_4.index t (0 : Fin 3) * 1 + 1 * 0 = t.val; rw [e0]; omega
      | ⟨1, _⟩ => show win0_4.index t (1 : Fin 3) * 3 + 1 * (j 1).val = (j 1).val; rw [e1]; omega
      | ⟨2, _⟩ => show win0_4.index t (2 : Fin 3) * 128 + 1 * (j 2).val = (j 2).val; rw [e2]; omega
    exact (congrArg (written m c) h0).symm
  exact funext key

theorem written_cover (i : S32x3x128.Idx) :
    ∃ t : Fin cfg0.N, (cfg0.win 4).flush t = true ∧ i ∈ ((cfg0.win 4).blk t).view.set := by
  refine ⟨(i 0 : Fin 32), flush0_4 _, ?_⟩
  show i ∈ ((View.whole main_v4).slice (win0_4.rect (i 0))).set
  rw [View.set_slice_whole, Rect.mem_set_unit]
  obtain ⟨e0, e1, e2⟩ := index4 (i 0 : Fin 32)
  have h1 : (i 1 : Nat) < 3 := (i 1).isLt
  have h2 : (i 2 : Nat) < 128 := (i 2).isLt
  intro a
  match a with
  | ⟨0, _⟩ => show win0_4.index (i 0) (0 : Fin 3) * 1 ≤ (i 0 : Nat) ∧ (i 0 : Nat) < win0_4.index (i 0) (0 : Fin 3) * 1 + 1
              rw [e0]; omega
  | ⟨1, _⟩ => show win0_4.index (i 0) (1 : Fin 3) * 3 ≤ (i 1 : Nat) ∧ (i 1 : Nat) < win0_4.index (i 0) (1 : Fin 3) * 3 + 3
              rw [e1]; omega
  | ⟨2, _⟩ => show win0_4.index (i 0) (2 : Fin 3) * 128 ≤ (i 2 : Nat) ∧ (i 2 : Nat) < win0_4.index (i 0) (2 : Fin 3) * 128 + 128
              rw [e2]; omega

/-- The result array ends at `written`. -/
theorem final_array (c : Dev nD) : (dats m 0 c).arrAt 4 cfg0.N = written m c :=
  (dats m 0 c).arrAt_eq_of_cover 4 (written m c) (fun t _ => flushed_eq m c t) written_cover

end Cert.KernelIdeal.Gen

end
-- ==== Proof.KernelResult.lean ====
/- The idealised kernel's three results: the host operations after the region sum the array it wrote over blocks and
   lanes, which is over the 4096 problems, and divide. -/
module

public import proofs.«01_k».proof.Proof.KernelArray
public import Idealize.ShloMosaic.Lib.IdealHost

@[expose] public section

set_option maxRecDepth 16384

noncomputable section

namespace Cert.Sinkhorn

open Idealize.ShloMosaic Idealize.ShloMosaic.ValueIdx

/-- The sum of a quantity over the 4096 problems, divided by the number written `n`. -/
def over (n : BitVec 32) (g : Fin 4096 → EReal) : EReal := Ideal.div (∑ b, g b) (Ideal.ofBits .f32 n)

/-- The mean divergence. -/
def distrib (h : Fin 4096 → Fin 3 → EReal) : EReal := over 0x45800000#32 fun b => h b 0

/-- The mean squared difference of the inner times. -/
def timing (h : Fin 4096 → Fin 3 → EReal) : EReal := over 0x48400000#32 fun b => h b 1

/-- The mean squared difference of the lengths. -/
def length (h : Fin 4096 → Fin 3 → EReal) : EReal := over 0x45800000#32 fun b => h b 2

end Cert.Sinkhorn

namespace Cert.KernelIdeal.Gen

open Idealize.ShloMosaic Idealize.ShloMosaic.TcCoe Idealize.ShloMosaic.Tactic Idealize.ShloMosaic.ValueIdx
open Idealize.ShloMosaic.StableHlo Idealize.SL.Sem Cert.Sinkhorn
open Idealize.ShloMosaic.Pipeline (Dat)

/-- A sum over blocks and lanes is a sum over problems. -/
theorem sum_blocks (x : S32x3x128.Idx → EReal) (g : Fin 4096 → Fin 3 → EReal)
    (hx : ∀ i, x i = g (row (i 0) (i 2)) (i 1)) (init : EReal) (r : Fin 3) :
    Ideal.hostReduceAdd reducesTo_S32x3x128_S3_d0_2 x init (ix1 r) = init + ∑ b, g b r := by
  unfold Ideal.hostReduceAdd
  congr 1
  have hd : ∀ i : S32x3x128.Idx, reducesTo_S32x3x128_S3_d0_2.drop i = ix1 r ↔ i 1 = r := fun i => by
    have hv : (reducesTo_S32x3x128_S3_d0_2.drop i 0 : Nat) = i 1 := Shape.ReducesTo.drop_apply_val _ i 0
    constructor
    · intro h
      have h' : (reducesTo_S32x3x128_S3_d0_2.drop i 0 : Nat) = r.val := congrArg (fun z : S3.Idx => (z 0 : Nat)) h
      exact Fin.ext (hv.symm.trans h')
    · intro h
      refine funext fun a => Fin.ext ?_
      match a with
      | ⟨0, _⟩ => exact hv.trans (congrArg Fin.val h)
  refine Finset.sum_nbij' (fun i => row (i 0) (i 2))
    (fun b => ix3 (⟨b.val / 128, by omega⟩ : Fin 32) r (⟨b.val % 128, by omega⟩ : Fin 128)) ?_ ?_ ?_ ?_ ?_
  · intro i _; exact Finset.mem_univ _
  · intro b _; rw [Finset.mem_filter, hd]; exact ⟨Finset.mem_univ _, rfl⟩
  · intro i hi
    rw [Finset.mem_filter, hd] at hi
    have h2 : (i 2 : Nat) < 128 := (i 2).isLt
    refine funext fun a => ?_
    match a with
    | ⟨0, _⟩ => refine Fin.ext ?_; show ((i 0 : Nat) * 128 + (i 2 : Nat)) / 128 = (i 0 : Nat); omega
    | ⟨1, _⟩ => exact hi.2.symm
    | ⟨2, _⟩ => refine Fin.ext ?_; show ((i 0 : Nat) * 128 + (i 2 : Nat)) % 128 = (i 2 : Nat); omega
  · intro b _; refine Fin.ext ?_; show b.val / 128 * 128 + b.val % 128 = b.val; omega
  · intro i hi
    rw [Finset.mem_filter, hd] at hi
    rw [hx, hi.2]

variable (m : (ℓ : Loc nD τ sig) → Buf (Elt Ideal) ℓ) (ρ : Dev nD → PrngReg)

/-- The three sums of an array of the three numbers. -/
def sums (x : Vec Ideal S32x3x128 .f32) : Vec Ideal S3 .f32 :=
  Host.reduceAdd x (constant (F := Ideal) S_ .f32 0x00000000#32) reducesTo_S32x3x128_S3_d0_2 h_S_

theorem sums_apply (c : Dev nD) (r : Fin 3) : sums (written m c) (ix1 r) = ∑ b, threeOf m c b r := by
  unfold sums
  rw [hostReduceAdd_apply]
  refine (sum_blocks _ (threeOf m c) (fun _ => rfl) _ r).trans ?_
  show Ideal.ofBits .f32 0x00000000#32 + _ = _
  rw [Ideal.ofBits_zero_f32, zero_add]

theorem pick_apply (v : Vec Ideal S3 .f32) (r : Fin 3) {n : ℕ} (hn : n = r.val) (h : S3.Slices ![n] S1) (j : S_.Idx) :
    shapeCast S_ (extractStridedSlice S1 ![n] v h) shapeCasts_S1_S_ j = v (ix1 r) := by
  subst hn
  rw [shapeCast_apply _ _ j (ix1 (0 : Fin 1)) (by rw [Shape.rowMajor_val_one]; exact (Nat.lt_one_iff.mp (Shape.rowMajor _ j).isLt).symm)]
  refine extractStridedSlice_apply _ _ _ _ _ fun a => ?_
  match a with
  | ⟨0, _⟩ => rfl

/-- The contents the host operations after the region start from, where they read them. -/
theorem tail_v4 (c : Dev nD) : Pipeline.withArrays (cfgs 0).spec c (V0 m c) (fun w => (dats m 0 c).arrAt w (cfgs 0).N)
    (Proc.devRef .tc main_v4) = written m c :=
  (Pipeline.withArrays_arr spec0 (by decide) c (V0 m c) _ 4).trans (final_array m c)

theorem tail_v8 (c : Dev nD) : Host.divf (shapeCast S_ (extractStridedSlice S1 ![0] (sums (written m c)) slices_S3_S1_0)
    shapeCasts_S1_S_) (constant (F := Ideal) S_ .f32 0x45800000#32) = fun _ => distrib (threeOf m c) :=
  funext fun j => by
    rw [hostDivf_apply, pick_apply (n := 0) _ 0 rfl, sums_apply]; rfl

theorem tail_v11 (c : Dev nD) : Host.divf (shapeCast S_ (extractStridedSlice S1 ![1] (sums (written m c)) slices_S3_S1_1)
    shapeCasts_S1_S_) (constant (F := Ideal) S_ .f32 0x48400000#32) = fun _ => timing (threeOf m c) :=
  funext fun j => by
    rw [hostDivf_apply, pick_apply (n := 1) _ 1 rfl, sums_apply]; rfl

theorem tail_v14 (c : Dev nD) : Host.divf (shapeCast S_ (extractStridedSlice S1 ![2] (sums (written m c)) slices_S3_S1_2)
    shapeCasts_S1_S_) (constant (F := Ideal) S_ .f32 0x45800000#32) = fun _ => length (threeOf m c) :=
  funext fun j => by
    rw [hostDivf_apply, pick_apply (n := 2) _ 2 rfl, sums_apply]; rfl

theorem end_v11 (c : Dev nD) : Pipeline.afterTail₀ cfgs (dats m) 0 (V0 m) [hostOps1] c main_v11
    = fun _ => timing (threeOf m c) := by
  unfold Pipeline.afterTail₀
  simp only [List.flatten_cons, List.flatten_nil, List.append_nil]
  after_results
  rw [tail_v4]
  exact tail_v11 m c

theorem end_v14 (c : Dev nD) : Pipeline.afterTail₀ cfgs (dats m) 0 (V0 m) [hostOps1] c main_v14
    = fun _ => length (threeOf m c) := by
  unfold Pipeline.afterTail₀
  simp only [List.flatten_cons, List.flatten_nil, List.append_nil]
  after_results
  rw [tail_v4]
  exact tail_v14 m c

theorem end_v16 (c : Dev nD) : Pipeline.afterTail₀ cfgs (dats m) 0 (V0 m) [hostOps1] c main_v16
    = fun _ => timing (threeOf m c) + length (threeOf m c) + distrib (threeOf m c) := by
  unfold Pipeline.afterTail₀
  simp only [List.flatten_cons, List.flatten_nil, List.append_nil]
  after_results
  rw [tail_v4]
  exact (congrArg₂ addf (congrArg₂ addf (tail_v11 m c) (tail_v14 m c)) (tail_v8 m c))

/-- The idealised kernel's run: its three results, its arguments unchanged. -/
theorem values : θ_run defs (onTc (τ := τ) (main (F := Ideal))) ⟨m, fun _ => 0, ρ⟩ fun r => ∀ c : Dev nD,
      r.2.mem ((c.tc : Thread nD τ).loc main_v16)
          = (fun _ => timing (threeOf m c) + length (threeOf m c) + distrib (threeOf m c))
      ∧ r.2.mem ((c.tc : Thread nD τ).loc main_v14) = (fun _ => length (threeOf m c))
      ∧ r.2.mem ((c.tc : Thread nD τ).loc main_v11) = (fun _ => timing (threeOf m c)) :=
  (θ_run defs _ _).mono (fun _ h c =>
    ⟨((h c).2 main_v16 (Pipeline.mem_restRefs_of main_v16 (by decide) (by decide))).trans (end_v16 m c),
      ((h c).2 main_v14 (Pipeline.mem_restRefs_of main_v14 (by decide) (by decide))).trans (end_v14 m c),
      ((h c).2 main_v11 (Pipeline.mem_restRefs_of main_v11 (by decide) (by decide))).trans (end_v11 m c)⟩) (run m ρ)

end Cert.KernelIdeal.Gen

end
-- ==== Proof.RefValue.lean ====
/- The reference's three results, read problem by problem: its loop is ten iterations of `stepR` in each of the three
   transport problems, and its results are the sums the idealised kernel's are. -/
module

public import proofs.«01_k».proof.Proof.KernelResult
public import proofs.«01_k».proof.Proof.Gen.ReferenceIdeal.StepRun

@[expose] public section

set_option maxRecDepth 16384

noncomputable section

namespace Cert.Sinkhorn

open Idealize.ShloMosaic Idealize.ShloMosaic.TcCoe Idealize.ShloMosaic.ValueIdx Idealize.SL.Sem
open Cert.ReferenceIdeal Cert.ReferenceIdeal.Gen Cert.ReferenceIdeal.Step Cert.ReferenceIdeal.StepRun

/-! ### Constants -/

theorem const_half : Ideal.ofBits .f32 0x3F000000#32 = ((1 / 2 : ℝ) : EReal) := by
  simp [Ideal.ofBits, Ideal.ieee, -EReal.coe_mul]; norm_num

theorem const_400 : Ideal.ofBits .f32 0x43C80000#32 = ((400 : ℝ) : EReal) := by
  simp [Ideal.ofBits, Ideal.ieee, -EReal.coe_mul]; norm_num

theorem const_50 : Ideal.ofBits .f32 0x42480000#32 = ((50 : ℝ) : EReal) := by
  simp [Ideal.ofBits, Ideal.ieee, -EReal.coe_mul]; norm_num

/-- The weight of a point, as the reference computes it. -/
theorem weight : Ideal.div (Ideal.ofBits .f32 0x3F800000#32) (Ideal.ofBits .f32 0x42480000#32) = ((1 / 50 : ℝ) : EReal) := by
  rw [Ideal.ofBits_one_f32, const_50]
  unfold Ideal.div
  rw [if_neg (by norm_num), one_mul, ← EReal.coe_inv]
  norm_num

theorem log_weight (b : Fin 4096) (i : Fin 48) : K_main_v5 (F := Ideal) (ix2 b i) = ((Real.log (1 / 50) : ℝ) : EReal) := by
  show Ideal.log (Ideal.div (Ideal.ofBits .f32 0x3F800000#32) (Ideal.ofBits .f32 0x42480000#32)) = _
  rw [weight]
  show (if (1 / 50 : ℝ) ≤ 0 then ⊥ else ((Real.log (1 / 50) : ℝ) : EReal)) = _
  rw [if_neg (by norm_num)]

/-! ### A list of points along either axis of a table -/

/-- Along the first. -/
abbrev down (f : FVec Ideal S4096x48 .f32) : FVec Ideal S4096x48x48 .f32 :=
  broadcastInDim S4096x48x48 ![0, 1, 2] bcast_S4096x48x1_S4096x48x48_0_1_2
    (broadcastInDim S4096x48x1 ![0, 1] bcast_S4096x48_S4096x48x1_0_1 f)

/-- Along the second. -/
abbrev across (f : FVec Ideal S4096x48 .f32) : FVec Ideal S4096x48x48 .f32 :=
  broadcastInDim S4096x48x48 ![0, 1, 2] bcast_S4096x1x48_S4096x48x48_0_1_2
    (broadcastInDim S4096x1x48 ![0, 2] bcast_S4096x48_S4096x1x48_0_2 f)

theorem down_apply (f : FVec Ideal S4096x48 .f32) (b : Fin 4096) (i j : Fin 48) : down f (ix3 b i j) = f (ix2 b i) := by
  unfold down
  rw [broadcastInDim_apply _ _ _ _ (ix3 b i (0 : Fin 1)) fun a => by
      match a with
      | ⟨0, _⟩ => rfl
      | ⟨1, _⟩ => rfl
      | ⟨2, _⟩ => rfl]
  exact broadcastInDim_apply _ _ _ _ (ix2 b i) fun a => by
    match a with
    | ⟨0, _⟩ => rfl
    | ⟨1, _⟩ => rfl

theorem across_apply (f : FVec Ideal S4096x48 .f32) (b : Fin 4096) (i j : Fin 48) : across f (ix3 b i j) = f (ix2 b j) := by
  unfold across
  rw [broadcastInDim_apply _ _ _ _ (ix3 b (0 : Fin 1) j) fun a => by
      match a with
      | ⟨0, _⟩ => rfl
      | ⟨1, _⟩ => rfl
      | ⟨2, _⟩ => rfl]
  exact broadcastInDim_apply _ _ _ _ (ix2 b j) fun a => by
    match a with
    | ⟨0, _⟩ => rfl
    | ⟨1, _⟩ => rfl

/-! ### Half an iteration -/

/-- The number written `n` at every place of a table of tables. -/
abbrev fill3 (n : BitVec 32) : FVec Ideal S4096x48x48 .f32 :=
  broadcastInDim S4096x48x48 ![] bcast_S_S4096x48x48 (constant (F := Ideal) S_ .f32 n)

abbrev fill2 (n : BitVec 32) : FVec Ideal S4096x48 .f32 :=
  broadcastInDim S4096x48 ![] bcast_S_S4096x48 (constant (F := Ideal) S_ .f32 n)

abbrev zero0 : FVec Ideal S_ .f32 := constant (F := Ideal) S_ .f32 0x00000000#32

/-- The exponentials a half iteration sums, the potentials and the weights laid out over the costs. -/
abbrev terms (f w C : FVec Ideal S4096x48x48 .f32) : FVec Ideal S4096x48x48 .f32 :=
  Host.exp (addf (mulf (subf f C) (fill3 0x43C80000#32)) w)

/-- From the sums to the potentials. -/
abbrev potential (v : FVec Ideal S4096x48 .f32) : FVec Ideal S4096x48 .f32 :=
  Host.divf (Host.negf (Host.log v)) (fill2 0x43C80000#32)

/-- The target points' potentials from the source points'. -/
def targets (f : FVec Ideal S4096x48 .f32) (C : FVec Ideal S4096x48x48 .f32) : FVec Ideal S4096x48 .f32 :=
  potential (Host.reduceAdd (terms (down f) (down (K_main_v5 (F := Ideal))) C) zero0 reducesTo_S4096x48x48_S4096x48_d1 h_S_)

/-- The source points' potentials from the target points'. -/
def sources (g : FVec Ideal S4096x48 .f32) (C : FVec Ideal S4096x48x48 .f32) : FVec Ideal S4096x48 .f32 :=
  potential (Host.reduceAdd (terms (across g) (across (K_main_v5 (F := Ideal))) C) zero0 reducesTo_S4096x48x48_S4096x48_d2 h_S_)

/-- One exponential, from the potential and the weight's logarithm there. -/
theorem terms_apply (f w C : FVec Ideal S4096x48x48 .f32) (k : S4096x48x48.Idx) (l : EReal) (hw : w k = l) (v : EReal)
    (hf : f k = v) : terms f w C k = Ideal.exp ((v - C k) * Ideal.ofBits .f32 0x43C80000#32 + l) := by
  subst hw hf; rfl

/-- A half iteration at one place, from the sum there. -/
theorem potential_apply (v : FVec Ideal S4096x48 .f32) (k : S4096x48.Idx) (f c : Fin 48 → EReal)
    (h : v k = ∑ i, Ideal.exp ((f i - c i) * Ideal.ofBits .f32 0x43C80000#32 + ((Real.log (1 / 50) : ℝ) : EReal))) :
    potential v k = plain f c := by
  show Ideal.div (-(Ideal.log (v k))) (Ideal.ofBits .f32 0x43C80000#32) = _
  rw [h, const_400]; rfl

theorem targets_apply (f : FVec Ideal S4096x48 .f32) (C : FVec Ideal S4096x48x48 .f32) (b : Fin 4096) (j : Fin 48) :
    targets f C (ix2 b j) = plain (fun i => f (ix2 b i)) fun i => C (ix3 b i j) := by
  refine potential_apply _ _ _ _ ?_
  rw [hostReduceAdd_apply, Ideal.hostReduceAdd_single _ (by decide : S4096x48x48.Reduces [1] S4096x48)]
  show Ideal.ofBits .f32 0x00000000#32 + _ = _
  rw [Ideal.ofBits_zero_f32, zero_add]
  refine Finset.sum_congr rfl fun i _ => ?_
  refine (congrArg (terms (down f) (down (K_main_v5 (F := Ideal))) C) (show _ = ix3 b (i : Fin 48) j from funext fun a => Fin.ext (by
    match a with
    | ⟨0, _⟩ => rfl
    | ⟨1, _⟩ => rfl
    | ⟨2, _⟩ => rfl))).trans ?_
  exact terms_apply _ _ _ _ _ ((down_apply _ b i j).trans (log_weight b i)) _ (down_apply f b i j)

theorem sources_apply (g : FVec Ideal S4096x48 .f32) (C : FVec Ideal S4096x48x48 .f32) (b : Fin 4096) (i : Fin 48) :
    sources g C (ix2 b i) = plain (fun j => g (ix2 b j)) fun j => C (ix3 b i j) := by
  refine potential_apply _ _ _ _ ?_
  rw [hostReduceAdd_apply, Ideal.hostReduceAdd_single _ (by decide : S4096x48x48.Reduces [2] S4096x48)]
  show Ideal.ofBits .f32 0x00000000#32 + _ = _
  rw [Ideal.ofBits_zero_f32, zero_add]
  refine Finset.sum_congr rfl fun j _ => ?_
  refine (congrArg (terms (across g) (across (K_main_v5 (F := Ideal))) C) (show _ = ix3 b i (j : Fin 48) from funext fun a => Fin.ext (by
    match a with
    | ⟨0, _⟩ => rfl
    | ⟨1, _⟩ => rfl
    | ⟨2, _⟩ => rfl))).trans ?_
  exact terms_apply _ _ _ _ _ ((across_apply _ b i j).trans (log_weight b j)) _ (across_apply g b i j)

/-! ### Costs -/

/-- Half the squared differences between the points `a` and the points `d`. -/
def costs (a d : FVec Ideal S4096x48 .f32) : FVec Ideal S4096x48x48 .f32 :=
  mulf (fill3 0x3F000000#32) (mulf (subf (down a) (across d)) (subf (down a) (across d)))

theorem costs_apply (a d : FVec Ideal S4096x48 .f32) (b : Fin 4096) (i j : Fin 48) :
    costs a d (ix3 b i j) = tableR (fun i => a (ix2 b i)) (fun j => d (ix2 b j)) i j := by
  show Ideal.ofBits .f32 0x3F000000#32 * ((down a (ix3 b i j) - across d (ix3 b i j)) * (down a (ix3 b i j) - across d (ix3 b i j))) = _
  rw [down_apply, across_apply, const_half]; rfl

/-! ### The loop -/

/-- The potentials of problem `b` in a pair of tables. -/
def pots (f g : FVec Ideal S4096x48 .f32) (b : Fin 4096) : Pots := (fun i => f (ix2 b i), fun j => g (ix2 b j))

/-- One iteration of one transport problem of the reference. -/
theorem pots_step (f : FVec Ideal S4096x48 .f32) (C : FVec Ideal S4096x48x48 .f32) (b : Fin 4096)
    (T : Fin 48 → Fin 48 → EReal) (hT : ∀ i j, C (ix3 b i j) = T i j) (g : FVec Ideal S4096x48 .f32) :
    pots (sources (targets f C) C) (targets f C) b = stepR T (pots f g b) := by
  unfold pots stepR
  simp only [sources_apply, targets_apply, hT]

/-- What the loop hands on after `n` iterations. -/
def after (a0 a1 : FVec Ideal S4096x50 .f32) : ℕ → State Ideal
  | 0 => init a0 a1
  | n + 1 => step n (after a0 a1 n)

/-- The inner times of the problems. -/
abbrev cut (a : FVec Ideal S4096x50 .f32) : FVec Ideal S4096x48 .f32 :=
  extractStridedSlice S4096x48 ![0, 1] a slices_S4096x50_S4096x48_0_1

theorem cut_apply (a : FVec Ideal S4096x50 .f32) (b : Fin 4096) (i : Fin 48) : cut a (ix2 b i) = rows2 a b (inner i) := by
  refine extractStridedSlice_apply _ _ _ _ _ fun c => ?_
  match c with
  | ⟨0, _⟩ => show b.val = 0 + b.val; omega
  | ⟨1, _⟩ => show i.val + 1 = 1 + i.val; omega

/-- The reference's potentials of the problem between the points `x` and `y` after the ten iterations. -/
def endR (x y : Fin 48 → EReal) : Pots := (stepR (tableR x y))^[10] start

variable (a0 a1 : FVec Ideal S4096x50 .f32) (b : Fin 4096)

/-- The true and the predicted inner times of problem `b`. -/
abbrev trueTimes : Fin 48 → EReal := fun i => rows2 a1 b (inner i)
abbrev predTimes : Fin 48 → EReal := fun i => rows2 a0 b (inner i)

theorem after_eq (n : ℕ) :
    ((after a0 a1 n).main_v31_0 = costs (cut a1) (cut a0) ∧ (after a0 a1 n).main_v31_2 = costs (cut a1) (cut a1)
        ∧ (after a0 a1 n).main_v31_3 = costs (cut a0) (cut a0))
      ∧ pots (after a0 a1 n).main_v31_6 (after a0 a1 n).main_v31_7 b
          = (stepR (tableR (trueTimes a1 b) (predTimes a0 b)))^[n] start
      ∧ pots (after a0 a1 n).main_v31_8 (after a0 a1 n).main_v31_9 b
          = (stepR (tableR (trueTimes a1 b) (trueTimes a1 b)))^[n] start
      ∧ pots (after a0 a1 n).main_v31_10 (after a0 a1 n).main_v31_11 b
          = (stepR (tableR (predTimes a0 b) (predTimes a0 b)))^[n] start := by
  induction n with
  | zero =>
    have h0 : pots (K_main_v30 (F := Ideal)) (K_main_v30 (F := Ideal)) b = start := by
      unfold pots start
      refine Prod.ext (funext fun i => ?_) (funext fun i => ?_) <;> exact Ideal.ofBits_zero_f32
    exact ⟨⟨rfl, rfl, rfl⟩, h0, h0, h0⟩
  | succ n ih =>
    obtain ⟨⟨h0, h2, h3⟩, hxy, hxx, hyy⟩ := ih
    rw [Function.iterate_succ_apply', Function.iterate_succ_apply', Function.iterate_succ_apply', ← hxy, ← hxx, ← hyy]
    have hc : ∀ (a d : FVec Ideal S4096x50 .f32) (i j : Fin 48), costs (cut a) (cut d) (ix3 b i j)
        = tableR (fun i => rows2 a b (inner i)) (fun j => rows2 d b (inner j)) i j := fun a d i j => by
      rw [costs_apply]; simp only [cut_apply]
    refine ⟨⟨h0, h2, h3⟩, ?_, ?_, ?_⟩
    · exact pots_step _ _ b _ (fun i j => (congrFun h0 _).trans (hc a1 a0 i j)) _
    · exact pots_step _ _ b _ (fun i j => (congrFun h2 _).trans (hc a1 a1 i j)) _
    · exact pots_step _ _ b _ (fun i j => (congrFun h3 _).trans (hc a0 a0 i j)) _

/-! ### The results -/

/-- The transport values from the potentials. -/
def transport (f g : FVec Ideal S4096x48 .f32) : FVec Ideal S4096 .f32 :=
  addf
    (Host.reduceAdd (mulf (Host.divf (fill2 0x3F800000#32) (fill2 0x42480000#32)) f) zero0 reducesTo_S4096x48_S4096_d1 h_S_)
    (Host.reduceAdd (mulf (Host.divf (fill2 0x3F800000#32) (fill2 0x42480000#32)) g) zero0 reducesTo_S4096x48_S4096_d1 h_S_)

theorem weighted_sum (f : FVec Ideal S4096x48 .f32) :
    Host.reduceAdd (mulf (Host.divf (fill2 0x3F800000#32) (fill2 0x42480000#32)) f) zero0 reducesTo_S4096x48_S4096_d1 h_S_ (ix1 b)
      = ∑ i, ((1 / 50 : ℝ) : EReal) * f (ix2 b i) := by
  rw [hostReduceAdd_apply, Ideal.hostReduceAdd_single _ (by decide : S4096x48.Reduces [1] S4096)]
  show Ideal.ofBits .f32 0x00000000#32 + _ = _
  rw [Ideal.ofBits_zero_f32, zero_add]
  refine Finset.sum_congr rfl fun i _ => ?_
  refine (congrArg (mulf (Host.divf (fill2 0x3F800000#32) (fill2 0x42480000#32)) f)
    (show _ = ix2 b (i : Fin 48) from funext fun a => Fin.ext (by
      match a with
      | ⟨0, _⟩ => rfl
      | ⟨1, _⟩ => rfl))).trans ?_
  show Ideal.div (Ideal.ofBits .f32 0x3F800000#32) (Ideal.ofBits .f32 0x42480000#32) * f (ix2 b i) = _
  rw [weight]

theorem transport_apply (f g : FVec Ideal S4096x48 .f32) : transport f g (ix1 b) = valueR (pots f g b) := by
  show _ + _ = _
  rw [weighted_sum, weighted_sum]; rfl

/-- The divergences. -/
def divergences (s : State Ideal) : FVec Ideal S4096 .f32 :=
  subf (subf (transport s.main_v31_6 s.main_v31_7)
      (mulf (broadcastInDim S4096 ![] bcast_S_S4096 (constant (F := Ideal) S_ .f32 0x3F000000#32))
        (transport s.main_v31_8 s.main_v31_9)))
    (mulf (broadcastInDim S4096 ![] bcast_S_S4096 (constant (F := Ideal) S_ .f32 0x3F000000#32))
      (transport s.main_v31_10 s.main_v31_11))

theorem divergences_apply : divergences (after a0 a1 10) (ix1 b) = divK (trueTimes a1 b) (predTimes a0 b) := by
  obtain ⟨-, hxy, hxx, hyy⟩ := after_eq a0 a1 b 10
  show transport _ _ (ix1 b) - halfC * transport _ _ (ix1 b) - halfC * transport _ _ (ix1 b) = _
  rw [transport_apply, transport_apply, transport_apply, hxy, hxx, hyy, value_eq, value_eq, value_eq]
  rfl

/-- A sum over a list's places is a sum over the problems. -/
theorem sum_problems (v : FVec Ideal S4096 .f32) : ∑ k, v k = ∑ b : Fin 4096, v (ix1 b) := by
  refine (Function.Bijective.sum_comp (e := fun b : Fin 4096 => (ix1 b : S4096.Idx)) ⟨fun a b h => congrFun h 0, fun k => ⟨k 0, ?_⟩⟩ v).symm
  refine funext fun a => ?_
  match a with
  | ⟨0, _⟩ => rfl

/-- A sum over the problems, divided. -/
theorem over_eq (n : BitVec 32) (v : FVec Ideal S4096 .f32) (g : Fin 4096 → EReal) (h : ∀ b, v (ix1 b) = g b) (k : S_.Idx) :
    Host.divf (Host.reduceAdd v zero0 reducesTo_S4096_S_d0 h_S_) (constant (F := Ideal) S_ .f32 n) k = over n g := by
  rw [hostDivf_apply, hostReduceAdd_apply, Ideal.hostReduceAdd_total _ (fun a => a.elim0)]
  show Ideal.div (Ideal.ofBits .f32 0x00000000#32 + _) (Ideal.ofBits .f32 n) = _
  rw [Ideal.ofBits_zero_f32, zero_add, sum_problems]
  simp only [h]; rfl

variable (a2 a3 : FVec Ideal S4096 .f32)

/-- The three numbers of each problem, from the arguments. -/
abbrev threes : Fin 4096 → Fin 3 → EReal := three (rows2 a0) (rows2 a1) (rows1 a2) (rows1 a3)

theorem length_eq (s : State Ideal) : R_main_v61 s a2 a3 = fun _ => length (threes a0 a1 a2 a3) :=
  funext fun k => over_eq _ _ _ (fun _ => rfl) k

theorem timing_eq (s : State Ideal) : R_main_v66 s a0 a1 = fun _ => timing (threes a0 a1 a2 a3) :=
  funext fun k => by
    show Host.divf (Host.reduceAdd (mulf (cut (subf a0 a1)) (cut (subf a0 a1))) zero0 reducesTo_S4096x48_S_d0_1 h_S_)
      (constant (F := Ideal) S_ .f32 0x48400000#32) k = _
    rw [hostDivf_apply, hostReduceAdd_apply, Ideal.hostReduceAdd_total _ (fun a => a.elim0)]
    show Ideal.div (Ideal.ofBits .f32 0x00000000#32 + _) (Ideal.ofBits .f32 0x48400000#32) = _
    rw [Ideal.ofBits_zero_f32, zero_add, sum_idx2]
    refine congrArg (Ideal.div · _) (Finset.sum_congr rfl fun b _ => ?_)
    show _ = ∑ i, sq (rows2 a0 b (inner i)) (rows2 a1 b (inner i))
    refine Finset.sum_congr rfl fun i _ => ?_
    show cut (subf a0 a1) (ix2 b i) * cut (subf a0 a1) (ix2 b i) = _
    rw [cut_apply]; rfl

theorem total_eq : R_main_v68 (after a0 a1 10) a0 a1 a2 a3
    = fun _ => timing (threes a0 a1 a2 a3) + length (threes a0 a1 a2 a3) + distrib (threes a0 a1 a2 a3) :=
  funext fun k => by
    show (R_main_v66 (after a0 a1 10) a0 a1 k + R_main_v61 (after a0 a1 10) a2 a3 k)
      + Host.divf (Host.reduceAdd (divergences (after a0 a1 10)) zero0 reducesTo_S4096_S_d0 h_S_)
        (constant (F := Ideal) S_ .f32 0x45800000#32) k = _
    rw [timing_eq a0 a1 a2 a3, length_eq a0 a1 a2 a3, over_eq _ _ _ (divergences_apply a0 a1) k]
    rfl

end Cert.Sinkhorn

end
-- ==== Proof.lean ====
/- The proof of the claims: the three programs run and change no argument, the named constants are what the original
   kernel's bit patterns stand for, and kernel and reference compute the same three losses. -/
module

public import proofs.«01_k».proof.Defs
public import proofs.«01_k».proof.Proof.Gen.ReferenceIdeal.Run
public import proofs.«01_k».proof.Proof.Gen.ReferenceIdeal.StepRun
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RunBits
public import proofs.«01_k».proof.Proof.RunIdeal
public import proofs.«01_k».proof.Proof.KernelResult
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem

/-- The reference ends with its arguments unchanged; it declares no counter. -/
theorem reference_frame : Cert.quiescent_ReferenceIdeal (hReferenceIdeal := Cert.ReferenceIdeal.Gen.facts) :=
  fun m g _ => (θ_run _ _ _).mono
    (fun r h => ⟨fun c => (h c).2.2.2, sem_eq_zero_of_no_sems (by decide) r.2⟩)
    (Cert.ReferenceIdeal.Value.run (F := Ideal) m g)

/-- Each named constant's bit pattern is the nearest to the real number it names. -/
theorem constants : Cert.preserves_Kernel_KernelIdeal :=
  ⟨IdealRules.named_const.statement Cert.KernelIdeal.κ "sc" .f32 0x4187E439#32 _ rfl,
    IdealRules.named_const.statement Cert.KernelIdeal.κ "log2e" .f32 0x3FB8AA3B#32 _ rfl,
    IdealRules.named_const.statement Cert.KernelIdeal.κ "la2" .f32 0xC0B49A78#32 _ rfl,
    IdealRules.named_const.statement Cert.KernelIdeal.κ "w" .f32 0x38115D0E#32 _ rfl⟩

open Cert.Sinkhorn in
/-- The kernel and the reference, from the same arguments, end with the same three losses. -/
theorem algebraic : Cert.algebraic_KernelIdeal_ReferenceIdeal (hKernelIdeal := Cert.KernelIdeal.Gen.facts)
    (hReferenceIdeal := Cert.ReferenceIdeal.Gen.facts) := by
  intro m g m' g' _ hargs
  let p (c : Dev Cert.KernelIdeal.nD) := Cert.KernelIdeal.Gen.threeOf m c
  refine ⟨fun c _ => timing (p c) + length (p c) + distrib (p c), fun c _ => length (p c), fun c _ => timing (p c),
    (θ_run _ _ _).mono (fun r h c => ⟨(h.1 c).1, (h.1 c).2.1, (h.1 c).2.2, h.2.1 c⟩)
      (θ_run_and (Cert.KernelIdeal.Gen.values m g) (Cert.KernelIdeal.Gen.frame m g)),
    (θ_run _ _ _).mono (fun r h c => ?_) (Cert.ReferenceIdeal.StepRun.run_iter m' g'
      (fun c => after (m' ((c.tc : Thread _ _).loc Cert.ReferenceIdeal.main_arg0))
        (m' ((c.tc : Thread _ _).loc Cert.ReferenceIdeal.main_arg1))) (fun _ => rfl) (fun _ _ => rfl))⟩
  have e : threes (m' ((c.tc : Thread _ _).loc Cert.ReferenceIdeal.main_arg0))
      (m' ((c.tc : Thread _ _).loc Cert.ReferenceIdeal.main_arg1)) (m' ((c.tc : Thread _ _).loc Cert.ReferenceIdeal.main_arg2))
      (m' ((c.tc : Thread _ _).loc Cert.ReferenceIdeal.main_arg3)) = p c := by
    rw [(hargs c).1, (hargs c).2.1, (hargs c).2.2.1, (hargs c).2.2.2]
  obtain ⟨h68, h61, h66, ha⟩ := h c
  exact ⟨h68.trans ((total_eq _ _ _ _).trans (congrArg (fun q _ => timing q + length q + distrib q) e)),
    h61.trans ((length_eq _ _ _ _ _).trans (congrArg (fun q _ => length q) e)),
    h66.trans ((timing_eq _ _ _ _ _).trans (congrArg (fun q _ => timing q) e)), ha⟩

theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, reference_frame, constants, algebraic⟩

end Cert.Proof

end
